-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v15_0)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v15_0) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x1024 : Shape := ⟨2, ![4096, 1024]⟩
abbrev S1024x100 : Shape := ⟨2, ![1024, 100]⟩
abbrev S100 : Shape := ⟨1, ![100]⟩
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x100 : S_.BroadcastsInDim S1024x100 (![] : Fin 0 → Fin S1024x100.rank)
  reducesTo_S1024x100_S_d0_1 : S1024x100.ReducesTo [0, 1] S_
  bcast_S_S100 : S_.BroadcastsInDim S100 (![] : Fin 0 → Fin S100.rank)
  reducesTo_S100_S_d0 : S100.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S1024 .f32) (main_arg10 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg10
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x100 .f32) (main_arg2 : FVec F S100 .f32) (main_arg3 : FVec F S8192x1024 .f32) (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_arg13 : FVec F S1024 .f32) (main_arg14 : FVec F S1024 .f32) (main_arg15 : FVec F S1024x1024 .f32) (main_arg16 : FVec F S1024 .f32) (main_arg17 : FVec F S1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x100 .f32 := Host.absf main_arg1
  let main_cst_0 : FVec F S_ .f32 := constant S_ .f32 0x7F800000#32
  let main_v5 : FVec F S1024x100 .f32 := broadcastInDim S1024x100 ![] bcast_S_S1024x100 main_cst_0
  let main_v6 : IVec S1024x100 1 := cmpf .olt main_v4 main_v5
  let main_c_1 : IVec S_ 1 := constantI S_ 1 1#1
  let main_v7 : IVec S_ 1 := (fun x v => Host.reduce IntOp.andi x v reducesTo_S1024x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S1024 .f32 := Host.absf main_arg9
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg10 main_v13 main_v16
-- ==== Kernel.lean ====
abbrev S4096x1024 : Shape := ⟨2, ![4096, 1024]⟩
abbrev S1024x100 : Shape := ⟨2, ![1024, 100]⟩
abbrev S100 : Shape := ⟨1, ![100]⟩
abbrev S8192x1024 : Shape := ⟨2, ![8192, 1024]⟩
abbrev S1024 : Shape := ⟨1, ![1024]⟩
abbrev S1024x1024 : Shape := ⟨2, ![1024, 1024]⟩
abbrev S1x100 : Shape := ⟨2, ![1, 100]⟩
abbrev S1x1024 : Shape := ⟨2, ![1, 1024]⟩
abbrev S4096x100 : Shape := ⟨2, ![4096, 100]⟩
abbrev S8x100 : Shape := ⟨2, ![8, 100]⟩
abbrev S1024x1 : Shape := ⟨2, ![1024, 1]⟩
abbrev S16x100x64 : Shape := ⟨3, ![16, 100, 64]⟩
abbrev S100x1024 : Shape := ⟨2, ![100, 1024]⟩
abbrev S100x4096 : Shape := ⟨2, ![100, 4096]⟩
abbrev S100x1 : Shape := ⟨2, ![100, 1]⟩
abbrev S100x16x64 : Shape := ⟨3, ![100, 16, 64]⟩
abbrev S16x4096x100 : Shape := ⟨3, ![16, 4096, 100]⟩
abbrev S4096x128 : Shape := ⟨2, ![4096, 128]⟩
abbrev S2x100x64 : Shape := ⟨3, ![2, 100, 64]⟩
abbrev S2x4096x100 : Shape := ⟨3, ![2, 4096, 100]⟩
abbrev S4096x64 : Shape := ⟨2, ![4096, 64]⟩
abbrev S1x100x64 : Shape := ⟨3, ![1, 100, 64]⟩
abbrev S100x64 : Shape := ⟨2, ![100, 64]⟩
abbrev S4096 : Shape := ⟨1, ![4096]⟩
abbrev S4096x1 : Shape := ⟨2, ![4096, 1]⟩
abbrev S1x4096x100 : Shape := ⟨3, ![1, 4096, 100]⟩
abbrev S64x1024 : Shape := ⟨2, ![64, 1024]⟩

abbrev nBuf : Space → Nat
  | .hbm => 40
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S1024x100, .f32⟩
  | .hbm, ⟨2, _⟩ => ⟨S100, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x100, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S4096x100, .f32⟩
  | .hbm, ⟨33, _⟩ => ⟨S4096x1024, .bf16⟩
  | .hbm, ⟨34, _⟩ => ⟨S4096x1024, .bf16⟩
  | .hbm, ⟨35, _⟩ => ⟨S8x100, .i32⟩
  | .hbm, ⟨36, _⟩ => ⟨S16x100x64, .bf16⟩
  | .hbm, ⟨37, _⟩ => ⟨S16x4096x100, .f32⟩
  | .hbm, ⟨38, _⟩ => ⟨S16x100x64, .f32⟩
  | .hbm, ⟨39, _⟩ => ⟨S100x1024, .f32⟩
  | .local _ .vmem, ⟨0, _⟩ => ⟨S1024x1024, .f32⟩
  | .local _ .vmem, ⟨1, _⟩ => ⟨S1024x1024, .f32⟩
  | .local _ .vmem, ⟨2, _⟩ => ⟨S1024x100, .f32⟩
  | .local _ .vmem, ⟨3, _⟩ => ⟨S1x100, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x100, .f32⟩
  | .local _ .vmem, ⟨13, _⟩ => ⟨S1024x100, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S8x100, .i32⟩
  | .local _ .vmem, ⟨19, _⟩ => ⟨S4096x100, .f32⟩
  | .local _ .vmem, ⟨20, _⟩ => ⟨S8x100, .i32⟩
  | .local _ .vmem, ⟨21, _⟩ => ⟨S4096x1024, .f32⟩
  | .local _ .vmem, ⟨22, _⟩ => ⟨S1024x1024, .f32⟩
  | .local _ .vmem, ⟨23, _⟩ => ⟨S1024x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S16x100x64, .bf16⟩
  | .local _ .vmem, ⟨28, _⟩ => ⟨S100x1024, .f32⟩
  | .local _ .vmem, ⟨29, _⟩ => ⟨S4096x128, .bf16⟩
  | .local _ .vmem, ⟨30, _⟩ => ⟨S4096x128, .bf16⟩
  | .local _ .vmem, ⟨31, _⟩ => ⟨S2x100x64, .bf16⟩
  | .local _ .vmem, ⟨32, _⟩ => ⟨S2x100x64, .bf16⟩
  | .local _ .vmem, ⟨33, _⟩ => ⟨S4096x128, .bf16⟩
  | .local _ .vmem, ⟨34, _⟩ => ⟨S4096x128, .bf16⟩
  | .local _ .vmem, ⟨35, _⟩ => ⟨S2x4096x100, .f32⟩
  | .local _ .vmem, ⟨36, _⟩ => ⟨S2x4096x100, .f32⟩
  | .local _ .vmem, ⟨37, _⟩ => ⟨S2x100x64, .f32⟩
  | .local _ .vmem, ⟨38, _⟩ => ⟨S2x100x64, .f32⟩
  | .local _ .vmem, ⟨39, _⟩ => ⟨S16x100x64, .f32⟩
  | .local _ .vmem, ⟨40, _⟩ => ⟨S1024x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S100x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc3_stg0_0 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc1_sem0_0 : DmaSem sig := 19
abbrev cc1_sem1_0 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc3_sem0_0 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v8 : BitVec 32 := Scalar.muli arg0 c1024_i32
  let v9 : Index := Scalar.indexCast v8
  let c0_7 : Index := 0#32
  ![v9.toNat, 0]
def k0_cond1 (i : grid0.Coords) : BitVec 1 :=
  let arg0 : BitVec 32 := BitVec.ofNat 32 (i 0).val
  let c3_i32 : BitVec 32 := 3#32
  let v81 : BitVec 1 := Scalar.cmpi .eq arg0 c3_i32
  let v82 : BitVec 32 := Scalar.extui v81
  let c0_i32 : BitVec 32 := 0#32
  let v83 : BitVec 1 := Scalar.cmpi .ne v82 c0_i32
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x100 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x100 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def k1_cond3 (i : grid1.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S8x100 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x100x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x100x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2x4096x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2x100x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := .none

abbrev stage3_0 : Fin 1 → Memref sig .tc .vmem S16x100x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S100x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S4096x1024 : Shape := ⟨2, ![4096, 1024]⟩
abbrev S1024x100 : Shape := ⟨2, ![1024, 100]⟩
abbrev S100 : Shape := ⟨1, ![100]⟩
abbrev S8192x1024 : Shape := ⟨2, ![8192, 1024]⟩
abbrev S1024 : Shape := ⟨1, ![1024]⟩
abbrev S1024x1024 : Shape := ⟨2, ![1024, 1024]⟩
abbrev S4096x100 : Shape := ⟨2, ![4096, 100]⟩
abbrev S1x100 : Shape := ⟨2, ![1, 100]⟩
abbrev S100x4096 : Shape := ⟨2, ![100, 4096]⟩
abbrev S100x8 : Shape := ⟨2, ![100, 8]⟩
abbrev S8x100 : Shape := ⟨2, ![8, 100]⟩
abbrev S_ : Shape := ⟨0, ![]⟩
abbrev S8x100x1 : Shape := ⟨3, ![8, 100, 1]⟩
abbrev S8x100x1024 : Shape := ⟨3, ![8, 100, 1024]⟩
abbrev S100x8x1024 : Shape := ⟨3, ![100, 8, 1024]⟩
abbrev S100x8192 : Shape := ⟨2, ![100, 8192]⟩
abbrev S100x1024 : Shape := ⟨2, ![100, 1024]⟩
abbrev S1x1024 : Shape := ⟨2, ![1, 1024]⟩
abbrev S100x1 : Shape := ⟨2, ![100, 1]⟩
abbrev S100x16x64 : Shape := ⟨3, ![100, 16, 64]⟩
abbrev S4096 : Shape := ⟨1, ![4096]⟩
abbrev S4096x1 : Shape := ⟨2, ![4096, 1]⟩
abbrev S4096x16x64 : Shape := ⟨3, ![4096, 16, 64]⟩
abbrev S16x4096x64 : Shape := ⟨3, ![16, 4096, 64]⟩
abbrev S16x100x64 : Shape := ⟨3, ![16, 100, 64]⟩
abbrev S16x4096x100 : Shape := ⟨3, ![16, 4096, 100]⟩
abbrev S16x4096 : Shape := ⟨2, ![16, 4096]⟩
abbrev S16x4096x1 : Shape := ⟨3, ![16, 4096, 1]⟩

abbrev nBuf : Space → Nat
  | .hbm => 257
  | .vmem => 0
  | .smem => 0
  | _ => 0

abbrev hbmTy0_0 (i : Nat) : BufTy := match i % 128 with
  | 0 => ⟨S4096x1024, .f32⟩
  | 1 => ⟨S1024x100, .f32⟩
  | 2 => ⟨S100, .f32⟩
  | 3 => ⟨S8192x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x1024, .f32⟩
  | 12 => ⟨S1024, .f32⟩
  | 13 => ⟨S1024, .f32⟩
  | 14 => ⟨S1024, .f32⟩
  | 15 => ⟨S1024x1024, .f32⟩
  | 16 => ⟨S1024, .f32⟩
  | 17 => ⟨S1024, .f32⟩
  | 18 => ⟨S1024, .f32⟩
  | 19 => ⟨S4096x100, .f32⟩
  | 20 => ⟨S1x100, .f32⟩
  | 21 => ⟨S4096x100, .f32⟩
  | 22 => ⟨S4096x100, .f32⟩
  | 23 => ⟨S100x4096, .f32⟩
  | 24 => ⟨S100x8, .f32⟩
  | 25 => ⟨S100x8, .i32⟩
  | 26 => ⟨S8x100, .i32⟩
  | 27 => ⟨S_, .i32⟩
  | 28 => ⟨S8x100, .i32⟩
  | 29 => ⟨S8x100, .i1⟩
  | 30 => ⟨S_, .i32⟩
  | 31 => ⟨S8x100, .i32⟩
  | 32 => ⟨S8x100, .i32⟩
  | 33 => ⟨S8x100, .i32⟩
  | 34 => ⟨S8x100x1, .i32⟩
  | 35 => ⟨S8x100x1024, .f32⟩
  | 36 => ⟨S100x8x1024, .f32⟩
  | 37 => ⟨S100x8192, .f32⟩
  | 38 => ⟨S100x1024, .f32⟩
  | 39 => ⟨S1x1024, .f32⟩
  | 40 => ⟨S100x1024, .f32⟩
  | 41 => ⟨S100x1024, .f32⟩
  | 42 => ⟨S_, .f32⟩
  | 43 => ⟨S100, .f32⟩
  | 44 => ⟨S100x1, .f32⟩
  | 45 => ⟨S_, .f32⟩
  | 46 => ⟨S100x1, .f32⟩
  | 47 => ⟨S100x1, .f32⟩
  | 48 => ⟨S_, .i32⟩
  | 49 => ⟨S_, .f32⟩
  | 50 => ⟨S100, .f32⟩
  | 51 => ⟨S100x1, .f32⟩
  | 52 => ⟨S_, .f32⟩
  | 53 => ⟨S100x1, .f32⟩
  | 54 => ⟨S100x1, .f32⟩
  | 55 => ⟨S100x1024, .f32⟩
  | 56 => ⟨S100x1024, .f32⟩
  | 57 => ⟨S100x1024, .f32⟩
  | 58 => ⟨S_, .f32⟩
  | 59 => ⟨S_, .f32⟩
  | 60 => ⟨S_, .f32⟩
  | 61 => ⟨S_, .f32⟩
  | 62 => ⟨S100, .f32⟩
  | 63 => ⟨S100x1, .f32⟩
  | 64 => ⟨S100x1, .f32⟩
  | 65 => ⟨S100x1, .f32⟩
  | 66 => ⟨S_, .f32⟩
  | 67 => ⟨S_, .i1⟩
  | 68 => ⟨S_, .f32⟩
  | 69 => ⟨S_, .f32⟩
  | 70 => ⟨S100x1, .f32⟩
  | 71 => ⟨S100x1, .f32⟩
  | 72 => ⟨S100x1024, .f32⟩
  | 73 => ⟨S100x1024, .f32⟩
  | 74 => ⟨S_, .f32⟩
  | 75 => ⟨S100x1, .f32⟩
  | 76 => ⟨S100x1, .f32⟩
  | 77 => ⟨S100x1, .f32⟩
  | 78 => ⟨S100x1024, .f32⟩
  | 79 => ⟨S100x1024, .f32⟩
  | 80 => ⟨S1x1024, .f32⟩
  | 81 => ⟨S100x1024, .f32⟩
  | 82 => ⟨S100x1024, .f32⟩
  | 83 => ⟨S1x1024, .f32⟩
  | 84 => ⟨S100x1024, .f32⟩
  | 85 => ⟨S100x1024, .f32⟩
  | 86 => ⟨S100x16x64, .f32⟩
  | 87 => ⟨S4096x1024, .f32⟩
  | 88 => ⟨S1x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .i32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x1024, .f32⟩
  | 105 => ⟨S4096x1024, .f32⟩
  | 106 => ⟨S4096x1024, .f32⟩
  | 107 => ⟨S_, .f32⟩
  | 108 => ⟨S_, .f32⟩
  | 109 => ⟨S_, .f32⟩
  | 110 => ⟨S_, .f32⟩
  | 111 => ⟨S4096, .f32⟩
  | 112 => ⟨S4096x1, .f32⟩
  | 113 => ⟨S4096x1, .f32⟩
  | 114 => ⟨S4096x1, .f32⟩
  | 115 => ⟨S_, .f32⟩
  | 116 => ⟨S_, .i1⟩
  | 117 => ⟨S_, .f32⟩
  | 118 => ⟨S_, .f32⟩
  | 119 => ⟨S4096x1, .f32⟩
  | 120 => ⟨S4096x1, .f32⟩
  | 121 => ⟨S4096x1024, .f32⟩
  | 122 => ⟨S4096x1024, .f32⟩
  | 123 => ⟨S_, .f32⟩
  | 124 => ⟨S4096x1, .f32⟩
  | 125 => ⟨S4096x1, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S1x1024, .f32⟩
  | 5 => ⟨S4096x1024, .f32⟩
  | 6 => ⟨S4096x1024, .f32⟩
  | 7 => ⟨S4096x16x64, .f32⟩
  | 8 => ⟨S4096x1024, .f32⟩
  | 9 => ⟨S1x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .i32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S_, .f32⟩
  | 29 => ⟨S_, .f32⟩
  | 30 => ⟨S_, .f32⟩
  | 31 => ⟨S_, .f32⟩
  | 32 => ⟨S4096, .f32⟩
  | 33 => ⟨S4096x1, .f32⟩
  | 34 => ⟨S4096x1, .f32⟩
  | 35 => ⟨S4096x1, .f32⟩
  | 36 => ⟨S_, .f32⟩
  | 37 => ⟨S_, .i1⟩
  | 38 => ⟨S_, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S_, .f32⟩
  | 45 => ⟨S4096x1, .f32⟩
  | 46 => ⟨S4096x1, .f32⟩
  | 47 => ⟨S4096x1, .f32⟩
  | 48 => ⟨S4096x1024, .f32⟩
  | 49 => ⟨S4096x1024, .f32⟩
  | 50 => ⟨S1x1024, .f32⟩
  | 51 => ⟨S4096x1024, .f32⟩
  | 52 => ⟨S4096x1024, .f32⟩
  | 53 => ⟨S1x1024, .f32⟩
  | 54 => ⟨S4096x1024, .f32⟩
  | 55 => ⟨S4096x1024, .f32⟩
  | 56 => ⟨S4096x16x64, .f32⟩
  | 57 => ⟨S16x4096x64, .f32⟩
  | 58 => ⟨S16x100x64, .f32⟩
  | 59 => ⟨S16x4096x64, .f32⟩
  | 60 => ⟨S16x4096x100, .f32⟩
  | 61 => ⟨S_, .f32⟩
  | 62 => ⟨S16x4096x100, .f32⟩
  | 63 => ⟨S16x4096x100, .f32⟩
  | 64 => ⟨S_, .f32⟩
  | 65 => ⟨S16x4096, .f32⟩
  | 66 => ⟨S_, .f32⟩
  | 67 => ⟨S16x4096, .f32⟩
  | 68 => ⟨S16x4096, .f32⟩
  | 69 => ⟨S16x4096x1, .f32⟩
  | 70 => ⟨S16x4096x100, .f32⟩
  | 71 => ⟨S16x4096x100, .f32⟩
  | 72 => ⟨S16x4096x100, .f32⟩
  | 73 => ⟨S_, .f32⟩
  | 74 => ⟨S16x4096, .f32⟩
  | 75 => ⟨S16x4096x1, .f32⟩
  | 76 => ⟨S16x4096x100, .f32⟩
  | 77 => ⟨S16x4096x100, .f32⟩
  | 78 => ⟨S16x100x64, .f32⟩
  | 79 => ⟨S100x16x64, .f32⟩
  | 80 => ⟨S100x1024, .f32⟩
  | 81 => ⟨S100x1024, .f32⟩
  | 82 => ⟨S1x1024, .f32⟩
  | 83 => ⟨S100x1024, .f32⟩
  | 84 => ⟨S100x1024, .f32⟩
  | 85 => ⟨S_, .f32⟩
  | 86 => ⟨S100, .f32⟩
  | 87 => ⟨S100x1, .f32⟩
  | 88 => ⟨S_, .f32⟩
  | 89 => ⟨S100x1, .f32⟩
  | 90 => ⟨S100x1, .f32⟩
  | 91 => ⟨S_, .i32⟩
  | 92 => ⟨S_, .f32⟩
  | 93 => ⟨S100, .f32⟩
  | 94 => ⟨S100x1, .f32⟩
  | 95 => ⟨S_, .f32⟩
  | 96 => ⟨S100x1, .f32⟩
  | 97 => ⟨S100x1, .f32⟩
  | 98 => ⟨S100x1024, .f32⟩
  | 99 => ⟨S100x1024, .f32⟩
  | 100 => ⟨S100x1024, .f32⟩
  | 101 => ⟨S_, .f32⟩
  | 102 => ⟨S_, .f32⟩
  | 103 => ⟨S_, .f32⟩
  | 104 => ⟨S_, .f32⟩
  | 105 => ⟨S100, .f32⟩
  | 106 => ⟨S100x1, .f32⟩
  | 107 => ⟨S100x1, .f32⟩
  | 108 => ⟨S100x1, .f32⟩
  | 109 => ⟨S_, .f32⟩
  | 110 => ⟨S_, .i1⟩
  | 111 => ⟨S_, .f32⟩
  | 112 => ⟨S_, .f32⟩
  | 113 => ⟨S100x1, .f32⟩
  | 114 => ⟨S100x1, .f32⟩
  | 115 => ⟨S100x1024, .f32⟩
  | 116 => ⟨S100x1024, .f32⟩
  | 117 => ⟨S_, .f32⟩
  | 118 => ⟨S100x1, .f32⟩
  | 119 => ⟨S100x1, .f32⟩
  | 120 => ⟨S100x1, .f32⟩
  | 121 => ⟨S100x1024, .f32⟩
  | 122 => ⟨S100x1024, .f32⟩
  | 123 => ⟨S1x1024, .f32⟩
  | 124 => ⟨S100x1024, .f32⟩
  | 125 => ⟨S100x1024, .f32⟩
  | 126 => ⟨S1x1024, .f32⟩
  | 127 => ⟨S100x1024, .f32⟩
  | _ => ⟨S4096x1024, .f32⟩

abbrev hbmTy0_2 (i : Nat) : BufTy := match i % 128 with
  | 0 => ⟨S100x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_values : Ref sig .tc := ⟨.hbm, 24, rfl⟩
abbrev main_indices : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_cst_1 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_cst_3 : Ref sig .tc := ⟨.hbm, 66, rfl⟩
abbrev main_call0_v13 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_3 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_4 : Ref sig .tc := ⟨.hbm, 91, rfl⟩
abbrev main_v42 : Ref sig .tc := ⟨.hbm, 92, rfl⟩
abbrev main_v43 : Ref sig .tc := ⟨.hbm, 93, rfl⟩
abbrev main_cst_5 : Ref sig .tc := ⟨.hbm, 94, rfl⟩
abbrev main_v44 : Ref sig .tc := ⟨.hbm, 95, rfl⟩
abbrev main_v45 : Ref sig .tc := ⟨.hbm, 96, rfl⟩
abbrev main_c_6 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_cst_1 : Ref sig .tc := ⟨.hbm, 108, rfl⟩
abbrev main_call1_v8 : Ref sig .tc := ⟨.hbm, 109, rfl⟩
abbrev main_call1_cst_2 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_v12 : Ref sig .tc := ⟨.hbm, 114, rfl⟩
abbrev main_call1_cst_3 : Ref sig .tc := ⟨.hbm, 115, rfl⟩
abbrev main_call1_v13 : Ref sig .tc := ⟨.hbm, 116, rfl⟩
abbrev main_call1_cst_4 : Ref sig .tc := ⟨.hbm, 117, rfl⟩
abbrev main_call1_call0_v0 : Ref sig .tc := ⟨.hbm, 118, rfl⟩
abbrev main_call1_call0_v1 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_7 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_8 : Ref sig .tc := ⟨.hbm, 140, rfl⟩
abbrev main_v65 : Ref sig .tc := ⟨.hbm, 141, rfl⟩
abbrev main_v66 : Ref sig .tc := ⟨.hbm, 142, rfl⟩
abbrev main_cst_9 : Ref sig .tc := ⟨.hbm, 143, rfl⟩
abbrev main_v67 : Ref sig .tc := ⟨.hbm, 144, rfl⟩
abbrev main_v68 : Ref sig .tc := ⟨.hbm, 145, rfl⟩
abbrev main_c_10 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_v12 : Ref sig .tc := ⟨.hbm, 163, rfl⟩
abbrev main_call2_cst_3 : Ref sig .tc := ⟨.hbm, 164, rfl⟩
abbrev main_call2_v13 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_cst_11 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_cst_12 : Ref sig .tc := ⟨.hbm, 189, rfl⟩
abbrev main_v88 : Ref sig .tc := ⟨.hbm, 190, rfl⟩
abbrev main_v89 : Ref sig .tc := ⟨.hbm, 191, rfl⟩
abbrev main_cst_13 : Ref sig .tc := ⟨.hbm, 192, rfl⟩
abbrev main_v90 : Ref sig .tc := ⟨.hbm, 193, rfl⟩
abbrev main_cst_14 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_cst_15 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_cst_16 : Ref sig .tc := ⟨.hbm, 213, rfl⟩
abbrev main_v108 : Ref sig .tc := ⟨.hbm, 214, rfl⟩
abbrev main_v109 : Ref sig .tc := ⟨.hbm, 215, rfl⟩
abbrev main_cst_17 : Ref sig .tc := ⟨.hbm, 216, rfl⟩
abbrev main_v110 : Ref sig .tc := ⟨.hbm, 217, rfl⟩
abbrev main_v111 : Ref sig .tc := ⟨.hbm, 218, rfl⟩
abbrev main_c_18 : Ref sig .tc := ⟨.hbm, 219, rfl⟩
abbrev main_call3_cst : Ref sig .tc := ⟨.hbm, 220, rfl⟩
abbrev main_call3_v0 : Ref sig .tc := ⟨.hbm, 221, rfl⟩
abbrev main_call3_v1 : Ref sig .tc := ⟨.hbm, 222, rfl⟩
abbrev main_call3_cst_0 : Ref sig .tc := ⟨.hbm, 223, rfl⟩
abbrev main_call3_v2 : Ref sig .tc := ⟨.hbm, 224, rfl⟩
abbrev main_call3_v3 : Ref sig .tc := ⟨.hbm, 225, rfl⟩
abbrev main_call3_v4 : Ref sig .tc := ⟨.hbm, 226, rfl⟩
abbrev main_call3_v5 : Ref sig .tc := ⟨.hbm, 227, rfl⟩
abbrev main_call3_v6 : Ref sig .tc := ⟨.hbm, 228, rfl⟩
abbrev main_call3_v7 : Ref sig .tc := ⟨.hbm, 229, rfl⟩
abbrev main_call3_cst_1 : Ref sig .tc := ⟨.hbm, 230, rfl⟩
abbrev main_call3_v8 : Ref sig .tc := ⟨.hbm, 231, rfl⟩
abbrev main_call3_cst_2 : Ref sig .tc := ⟨.hbm, 232, rfl⟩
abbrev main_call3_v9 : Ref sig .tc := ⟨.hbm, 233, rfl⟩
abbrev main_call3_v10 : Ref sig .tc := ⟨.hbm, 234, rfl⟩
abbrev main_call3_v11 : Ref sig .tc := ⟨.hbm, 235, rfl⟩
abbrev main_call3_v12 : Ref sig .tc := ⟨.hbm, 236, rfl⟩
abbrev main_call3_cst_3 : Ref sig .tc := ⟨.hbm, 237, rfl⟩
abbrev main_call3_v13 : Ref sig .tc := ⟨.hbm, 238, rfl⟩
abbrev main_call3_cst_4 : Ref sig .tc := ⟨.hbm, 239, rfl⟩
abbrev main_call3_call0_v0 : Ref sig .tc := ⟨.hbm, 240, rfl⟩
abbrev main_call3_call0_v1 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_cst_19 : Ref sig .tc := ⟨.hbm, 245, rfl⟩
abbrev main_v115 : Ref sig .tc := ⟨.hbm, 246, rfl⟩
abbrev main_v116 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩

abbrev nD : Nat := 1
abbrev τ : Topo := Topo.v7x

variable {F : FTy → Type} [FloatOps F]
-- ==== Proof.Base.lean ====
/-
  What the modules on the idealised kernel's four calls share: their imports and the type of the memory a call finds.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.Exec
public import Idealize.ShloMosaic.Lib.Tactic
public import Idealize.ShloMosaic.Lib.WordCmp
public import Idealize.ShloMosaic.Lib.Pipeline.Value

@[expose] public section

namespace Cert.KernelIdeal

open Idealize.ShloMosaic

/-- The memory each core finds when a call is entered. -/
abbrev Entry (F : FTy → Type) := Dev nD → Valuation τ sig (Elt F)

end Cert.KernelIdeal
-- ==== Proof.ProjRegion.lean ====
/-
  The projection call (region 0) of the idealised kernel, for any float values: what its body leaves in each window's buffer
  and in the scratch its points fill slice by slice, the pipeline's proof data from any contents of memory at the region's
  entry, and the body's obligation.
-/
module

public import proofs.«01_k».proof.Proof.Base
public import Idealize.ShloMosaic.Lib.VecWindow

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Entry F)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The slice of the scratch a point stores. -/
abbrev rs (i : grid0.Coords) : Rect S4096x100 := Rect.unit (s := S4096x100) (k0_off1 i) S1024x100.size (k0_off1_inb i)
/-- The whole of the scratch, -/
abbrev rS : Rect S4096x100 := Rect.unit (s := S4096x100) ![0, 0] S4096x100.size inb_S4096x100_S4096x100_0_0
/-- of a block of rows or of a weight, -/
abbrev rX : Rect S1024x1024 := Rect.unit (s := S1024x1024) ![0, 0] S1024x1024.size inb_S1024x1024_S1024x1024_0_0
/-- of a block of scores, -/
abbrev rI : Rect S1024x100 := Rect.unit (s := S1024x100) ![0, 0] S1024x100.size inb_S1024x100_S1024x100_0_0
/-- of the scores' bias, -/
abbrev rB : Rect S1x100 := Rect.unit (s := S1x100) ![0, 0] S1x100.size inb_S1x100_S1x100_0_0
/-- of a bias or scale row. -/
abbrev rR : Rect S1x1024 := Rect.unit (s := S1x1024) ![0, 0] S1x1024.size inb_S1x1024_S1x1024_0_0

theorem z2 : (![0, 0] : Fin 2 → Nat) = fun _ => 0 := by decide

/-- The block of queries a point stores, from the rows, the weight, the bias, the scale and the shift; -/
def outQ (x w : Vec F S1024x1024 .f32) (b g bb : Vec F S1x1024 .f32) : Vec F S1024x1024 .bf16 :=
  k0_pay30 (k0_pay26 g) (k0_pay27 bb) (k0_pay28 x w b) (k0_pay29 x w b)
/-- the block of values; -/
def outV (x w : Vec F S1024x1024 .f32) (b g bb : Vec F S1x1024 .f32) : Vec F S1024x1024 .bf16 :=
  k0_pay1 (k0_pay31 g) (k0_pay32 bb) (k0_pay33 x w b)

/-- Scores with, in each column, the first of the greatest put to minus infinity; -/
def mask (cv : Vec F S4096x100 .f32) : Vec F S4096x100 .f32 := k0_pay10 cv
/-- the row of the positions of each column's first greatest. -/
def pick (cv : Vec F S4096x100 .f32) : Vec F S1x100 .i32 := k0_pay9 cv

/-- Row 0 of the indices. -/
abbrev r0 : Rect S8x100 := Rect.unit (s := S8x100) ![0, 0] S1x100.size inb_S8x100_S1x100_0_0
/-- Row 1 of the indices. -/
abbrev r1 : Rect S8x100 := Rect.unit (s := S8x100) ![1, 0] S1x100.size inb_S8x100_S1x100_1_0
/-- Row 2 of the indices. -/
abbrev r2 : Rect S8x100 := Rect.unit (s := S8x100) ![2, 0] S1x100.size inb_S8x100_S1x100_2_0
/-- Row 3 of the indices. -/
abbrev r3 : Rect S8x100 := Rect.unit (s := S8x100) ![3, 0] S1x100.size inb_S8x100_S1x100_3_0
/-- Row 4 of the indices. -/
abbrev r4 : Rect S8x100 := Rect.unit (s := S8x100) ![4, 0] S1x100.size inb_S8x100_S1x100_4_0
/-- Row 5 of the indices. -/
abbrev r5 : Rect S8x100 := Rect.unit (s := S8x100) ![5, 0] S1x100.size inb_S8x100_S1x100_5_0
/-- Row 6 of the indices. -/
abbrev r6 : Rect S8x100 := Rect.unit (s := S8x100) ![6, 0] S1x100.size inb_S8x100_S1x100_6_0
/-- Row 7 of the indices. -/
abbrev r7 : Rect S8x100 := Rect.unit (s := S8x100) ![7, 0] S1x100.size inb_S8x100_S1x100_7_0

/-- The eight rows of indices from scores `cv`: each row the positions of the first greatest of what the earlier rows left. -/
def pieces (cv : Vec F S4096x100 .f32) : List (View.Piece (Elt F) S8x100 .i32) :=
  [⟨r7, pick (mask^[7] cv)⟩,
   ⟨r6, pick (mask^[6] cv)⟩,
   ⟨r5, pick (mask^[5] cv)⟩,
   ⟨r4, pick (mask^[4] cv)⟩,
   ⟨r3, pick (mask^[3] cv)⟩,
   ⟨r2, pick (mask^[2] cv)⟩,
   ⟨r1, pick (mask^[1] cv)⟩,
   ⟨r0, pick (mask^[0] cv)⟩]

def outI (cv : Vec F S4096x100 .f32) : Vec F S8x100 .i32 := View.canon (pieces cv)

/-- The eight rows cover the indices. -/
theorem coverI (cv : Vec F S4096x100 .f32) (y : S8x100.Idx) : ∃ pc ∈ pieces cv, y ∈ pc.1.set :=
  View.cover_of_tiled (pieces cv) S1x100.size (by rfl) y

/-- The row numbers, as the body's operation gives them; -/
abbrev rows : IVec S4096x100 32 := iota .tc S4096x100 32 [0] iota_S4096x100_d0_w32
/-- where scores are the greatest of their column. -/
def top (cv : Vec F S4096x100 .f32) : IVec S4096x100 1 :=
  cmpf .oge cv (broadcastTo S4096x100 (shapeCast S1x100 (multiReduction .maximumf [0] S100 cv 0xFF800000#32 reduces_S4096x100_S100 (.inl rfl) rfl) shapeCasts_S100_S1x100) broadcasts_S1x100_S4096x100)

variable (u : Vec F S4096x100 .f32)

/-! The body's terms, each the rows picked from, or the scores left of, earlier scores `u`. -/

theorem first_0 : k0_pay9 u = pick u := rfl
theorem first_1 : k0_pay12 u = pick (mask u) := rfl
theorem first_2 : k0_pay13 u = mask (mask u) := rfl
theorem first_3 : k0_pay14 u = k0_pay8 (mask (mask u)) := rfl
theorem second_1 : k0_pay15 (k0_pay8 u) = pick u := rfl
theorem second_2 : k0_pay16 rows u (k0_pay8 u) = mask u := rfl
theorem second_3 : k0_pay17 rows u (k0_pay8 u) = k0_pay8 (mask u) := by unfold k0_pay17; rw [second_2]; rfl
theorem second_4 : k0_pay18 rows u (k0_pay8 u) = pick (mask u) := by unfold k0_pay18; rw [second_3]; rfl
theorem second_5 : k0_pay19 rows u (k0_pay8 u) = mask (mask u) := by unfold k0_pay19; rw [second_3, second_2]; rfl
theorem second_6 : k0_pay20 rows u (k0_pay8 u) = k0_pay8 (mask (mask u)) := by unfold k0_pay20; rw [second_5]; rfl
theorem second_7 : k0_pay21 rows u (k0_pay8 u) = pick (mask (mask u)) := by unfold k0_pay21; rw [second_6]; rfl
theorem second_8 : k0_pay22 rows u (k0_pay8 u) = mask (mask (mask u)) := by unfold k0_pay22; rw [second_6, second_5]; rfl
theorem second_9 : k0_pay23 rows u (k0_pay8 u) = top (mask (mask (mask u))) := by unfold k0_pay23; rw [second_8]; rfl
theorem third_1 : k0_pay2 rows (top u) 4096#32 = k0_pay8 u := rfl
theorem third_2 : k0_pay3 rows (top u) 4096#32 = pick u := by unfold k0_pay3; rw [third_1]; rfl
theorem third_3 : k0_pay4 rows u (top u) 4096#32 = mask u := by unfold k0_pay4; rw [third_1]; rfl
theorem third_4 : k0_pay5 rows u (top u) 4096#32 = k0_pay8 (mask u) := by unfold k0_pay5; rw [third_3]; rfl
theorem third_5 : k0_pay6 rows u (top u) 4096#32 = pick (mask u) := by unfold k0_pay6; rw [third_4]; rfl
theorem third_6 : k0_pay7 rows u (top u) 4096#32 = pick (mask (mask u)) := by unfold k0_pay7; rw [third_4, third_3]; rfl

/-- The eight payloads over the scores loaded are the eight rows. -/
theorem payloads :
    ([⟨r7, k0_pay7 rows (k0_pay22 rows (k0_pay13 u) (k0_pay14 u)) (k0_pay23 rows (k0_pay13 u) (k0_pay14 u)) 4096#32⟩,
      ⟨r6, k0_pay6 rows (k0_pay22 rows (k0_pay13 u) (k0_pay14 u)) (k0_pay23 rows (k0_pay13 u) (k0_pay14 u)) 4096#32⟩,
      ⟨r5, k0_pay3 rows (k0_pay23 rows (k0_pay13 u) (k0_pay14 u)) 4096#32⟩,
      ⟨r4, k0_pay21 rows (k0_pay13 u) (k0_pay14 u)⟩, ⟨r3, k0_pay18 rows (k0_pay13 u) (k0_pay14 u)⟩, ⟨r2, k0_pay15 (k0_pay14 u)⟩,
      ⟨r1, k0_pay12 u⟩, ⟨r0, k0_pay9 u⟩] : List (View.Piece (Elt F) S8x100 .i32)) = pieces u := by
  simp only [first_0, first_1, first_2, first_3, second_1, second_4, second_7, second_8, second_9, third_2, third_5, third_6]
  unfold pieces
  simp only [Function.iterate_succ_apply', Function.iterate_zero_apply]

/-- The point is the last. -/
abbrev isLast (i : grid0.Coords) : Prop := k0_cond1 i = 1#1

theorem isLast_iff : ∀ t : Fin cfg0.N, isLast (grid0.coords t) ↔ t.val = 3 :=
  (by decide +kernel : ∀ t : Fin grid0.N, isLast (grid0.coords t) ↔ t.val = 3)
/-- Before the last point the indices are neither stored nor written back; at the last they are. -/
theorem idle_14 : ∀ t : Fin cfg0.N, t.val ≠ 3 → cfg0.idle 14 (grid0.coords t) = true :=
  (by decide +kernel : ∀ t : Fin grid0.N, t.val ≠ 3 → cfg0.idle 14 (grid0.coords t) = true)
theorem noFlush_14 : ∀ t : Fin cfg0.N, t.val ≠ 3 → (cfg0.win 14).flush t = false :=
  (by decide +kernel : ∀ t : Fin grid0.N, t.val ≠ 3 → (cfg0.win 14).flush t = false)
theorem live_14 : ∀ t : Fin cfg0.N, t.val = 3 → cfg0.idle 14 (grid0.coords t) = false :=
  (by decide +kernel : ∀ t : Fin grid0.N, t.val = 3 → cfg0.idle 14 (grid0.coords t) = false)
theorem off_eq : ∀ t : Fin cfg0.N, k0_off1 (grid0.coords t) = ![1024 * t.val, 0] :=
  (by decide +kernel : ∀ t : Fin grid0.N, k0_off1 (grid0.coords t) = ![1024 * t.val, 0])

set_option maxHeartbeats 4000000 in
/-- At a point before the last the blocks are stored, a slice of the scratch is, and the indices are left alone. -/
theorem run_fill (c : Dev nD) (E : Set ℕ) (i : grid0.Coords) (arg1 : Memref sig .tc .vmem S1024x1024 .f32) (harg1 : arg1.IsWhole) (arg2 : Memref sig .tc .vmem S1024x100 .f32) (harg2 : arg2.IsWhole) (arg3 : Memref sig .tc .vmem S1x100 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x100 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S8x100 .i32) (harg15 : arg15.IsWhole) (arg16 : Memref sig .tc .vmem S4096x100 .f32) (harg16 : arg16.IsWhole) (hc0 : ¬isLast i)
    (x0 : Vec F S1024x1024 .f32) (x1 : Vec F S1024x100 .f32) (x2 : Vec F S1x100 .f32) (x3 : Vec F S1024x1024 .f32) (x4 : Vec F S1x1024 .f32) (x5 : Vec F S1x1024 .f32) (x6 : Vec F S1x1024 .f32) (x7 : Vec F S1024x1024 .f32) (x8 : Vec F S1x1024 .f32) (x9 : Vec F S1x1024 .f32) (x10 : Vec F S1x1024 .f32) (xs : Vec F S4096x100 .f32) (d14 : Vec F S8x100 .i32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d14 ∗ owns (c : Thread nD τ) arg16 fullShare xs
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare (k0_pay24 x0 x1 x2) ∗ owns (c : Thread nD τ) arg13 fullShare (outQ x0 x3 x4 x5 x6) ∗ owns (c : Thread nD τ) arg14 fullShare (outV x0 x7 x8 x9 x10) ∗ owns (c : Thread nD τ) arg15 fullShare d14
        ∗ owns (c : Thread nD τ) arg16 fullShare (VecWindow.put xs (k0_off1 i) S1024x100.size (k0_pay25 x0 x1 x2))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__proj_kernel_eq_skeleton]; unfold cc0__proj_kernel_skel
  simp only [k0_part3_eq_skeleton, k0_part4_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, Hk⟩
  subst hf0 hf1 hf2 hf3 hf4 hf5 hf6 hf7 hf8 hf9 hf10 hf14 hf15
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ inb_S1024x100_S1024x100_0_0 _ []).trans ?_
    rw [← View.ld_unit_zero z2 inb_S1024x1024_S1024x1024_0_0 (arg1.view.read (Elt F) f0), ← View.ld_unit_zero z2 inb_S1024x100_S1024x100_0_0 (arg2.view.read (Elt F) f1), ← View.ld_unit_zero z2 inb_S1x100_S1x100_0_0 (arg3.view.read (Elt F) f2)]
    rfl
  isplitl [H12]
  · iexists _; isplitr
    swap; · iexact H12
    ipureintro
    refine (View.read_writes_full _ _ inb_S1024x1024_S1024x1024_0_0 _ []).trans ?_
    unfold outQ
    rw [← View.ld_unit_zero z2 inb_S1024x1024_S1024x1024_0_0 (arg1.view.read (Elt F) f0), ← View.ld_unit_zero z2 inb_S1024x1024_S1024x1024_0_0 (arg4.view.read (Elt F) f3), ← View.ld_unit_zero z2 inb_S1x1024_S1x1024_0_0 (arg5.view.read (Elt F) f4), ← View.ld_unit_zero z2 inb_S1x1024_S1x1024_0_0 (arg6.view.read (Elt F) f5), ← View.ld_unit_zero z2 inb_S1x1024_S1x1024_0_0 (arg7.view.read (Elt F) f6)]
    rfl
  isplitl [H13]
  · iexists _; isplitr
    swap; · iexact H13
    ipureintro
    refine (View.read_writes_full _ _ inb_S1024x1024_S1024x1024_0_0 _ []).trans ?_
    unfold outV
    rw [← View.ld_unit_zero z2 inb_S1024x1024_S1024x1024_0_0 (arg1.view.read (Elt F) f0), ← View.ld_unit_zero z2 inb_S1024x1024_S1024x1024_0_0 (arg8.view.read (Elt F) f7), ← View.ld_unit_zero z2 inb_S1x1024_S1x1024_0_0 (arg9.view.read (Elt F) f8), ← View.ld_unit_zero z2 inb_S1x1024_S1x1024_0_0 (arg10.view.read (Elt F) f9), ← View.ld_unit_zero z2 inb_S1x1024_S1x1024_0_0 (arg11.view.read (Elt F) f10)]
    rfl
  isplitl [H14]
  · iexists f14; isplitr; · ipureintro; rfl
    iexact H14
  iexists _; isplitr
  swap; · iexact H15
  ipureintro
  refine (View.read_writes_cons_put _ _ _ _ [] rfl).trans ?_
  rw [← View.ld_unit_zero z2 inb_S1024x1024_S1024x1024_0_0 (arg1.view.read (Elt F) f0), ← View.ld_unit_zero z2 inb_S1024x100_S1024x100_0_0 (arg2.view.read (Elt F) f1), ← View.ld_unit_zero z2 inb_S1x100_S1x100_0_0 (arg3.view.read (Elt F) f2)]
  rfl

set_option maxHeartbeats 4000000 in
/-- At the last point the indices are stored too, from the scratch as the point leaves it. -/
theorem run_last (c : Dev nD) (E : Set ℕ) (i : grid0.Coords) (arg1 : Memref sig .tc .vmem S1024x1024 .f32) (harg1 : arg1.IsWhole) (arg2 : Memref sig .tc .vmem S1024x100 .f32) (harg2 : arg2.IsWhole) (arg3 : Memref sig .tc .vmem S1x100 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x100 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S8x100 .i32) (harg15 : arg15.IsWhole) (arg16 : Memref sig .tc .vmem S4096x100 .f32) (harg16 : arg16.IsWhole) (hc0 : isLast i)
    (x0 : Vec F S1024x1024 .f32) (x1 : Vec F S1024x100 .f32) (x2 : Vec F S1x100 .f32) (x3 : Vec F S1024x1024 .f32) (x4 : Vec F S1x1024 .f32) (x5 : Vec F S1x1024 .f32) (x6 : Vec F S1x1024 .f32) (x7 : Vec F S1024x1024 .f32) (x8 : Vec F S1x1024 .f32) (x9 : Vec F S1x1024 .f32) (x10 : Vec F S1x1024 .f32) (xs : Vec F S4096x100 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare (k0_pay24 x0 x1 x2) ∗ owns (c : Thread nD τ) arg13 fullShare (outQ x0 x3 x4 x5 x6) ∗ owns (c : Thread nD τ) arg14 fullShare (outV x0 x7 x8 x9 x10) ∗ owns (c : Thread nD τ) arg15 fullShare (outI (VecWindow.put xs (k0_off1 i) S1024x100.size (k0_pay25 x0 x1 x2)))
        ∗ owns (c : Thread nD τ) arg16 fullShare (VecWindow.put xs (k0_off1 i) S1024x100.size (k0_pay25 x0 x1 x2))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__proj_kernel_eq_skeleton]; unfold cc0__proj_kernel_skel
  simp only [k0_part3_eq_skeleton, k0_part4_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
  subst hf0 hf1 hf2 hf3 hf4 hf5 hf6 hf7 hf8 hf9 hf10 hf15
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_full _ _ inb_S1024x100_S1024x100_0_0 _ []).trans ?_
    rw [← View.ld_unit_zero z2 inb_S1024x1024_S1024x1024_0_0 (arg1.view.read (Elt F) f0), ← View.ld_unit_zero z2 inb_S1024x100_S1024x100_0_0 (arg2.view.read (Elt F) f1), ← View.ld_unit_zero z2 inb_S1x100_S1x100_0_0 (arg3.view.read (Elt F) f2)]
    rfl
  isplitl [H12]
  · iexists _; isplitr
    swap; · iexact H12
    ipureintro
    refine (View.read_writes_full _ _ inb_S1024x1024_S1024x1024_0_0 _ []).trans ?_
    unfold outQ
    rw [← View.ld_unit_zero z2 inb_S1024x1024_S1024x1024_0_0 (arg1.view.read (Elt F) f0), ← View.ld_unit_zero z2 inb_S1024x1024_S1024x1024_0_0 (arg4.view.read (Elt F) f3), ← View.ld_unit_zero z2 inb_S1x1024_S1x1024_0_0 (arg5.view.read (Elt F) f4), ← View.ld_unit_zero z2 inb_S1x1024_S1x1024_0_0 (arg6.view.read (Elt F) f5), ← View.ld_unit_zero z2 inb_S1x1024_S1x1024_0_0 (arg7.view.read (Elt F) f6)]
    rfl
  isplitl [H13]
  · iexists _; isplitr
    swap; · iexact H13
    ipureintro
    refine (View.read_writes_full _ _ inb_S1024x1024_S1024x1024_0_0 _ []).trans ?_
    unfold outV
    rw [← View.ld_unit_zero z2 inb_S1024x1024_S1024x1024_0_0 (arg1.view.read (Elt F) f0), ← View.ld_unit_zero z2 inb_S1024x1024_S1024x1024_0_0 (arg8.view.read (Elt F) f7), ← View.ld_unit_zero z2 inb_S1x1024_S1x1024_0_0 (arg9.view.read (Elt F) f8), ← View.ld_unit_zero z2 inb_S1x1024_S1x1024_0_0 (arg10.view.read (Elt F) f9), ← View.ld_unit_zero z2 inb_S1x1024_S1x1024_0_0 (arg11.view.read (Elt F) f10)]
    rfl
  isplitl [H14]
  · iexists _; isplitr
    swap; · iexact H14
    ipureintro
    refine (congrArg (arg15.view.read (Elt F)) (congrArg (arg15.view.writes (Elt F) f14) (payloads (arg16.view.readAt (Elt F) rS.toLoadRect (arg16.view.writes (Elt F) f15
      [⟨rs i, k0_pay25 (View.ld (arg1.view.read (Elt F) f0) rX) (View.ld (arg2.view.read (Elt F) f1) rI) (View.ld (arg3.view.read (Elt F) f2) rB)⟩]))))).trans ?_
    refine (View.read_writes_eq_canon _ _ _ (coverI _)).trans ?_
    rw [View.readAt_full, View.read_writes_cons_put _ _ _ _ [] rfl, View.ld_unit_zero z2, View.ld_unit_zero z2, View.ld_unit_zero z2]
    rfl
  iexists _; isplitr
  swap; · iexact H15
  ipureintro
  refine (View.read_writes_cons_put _ _ _ _ [] rfl).trans ?_
  rw [← View.ld_unit_zero z2 inb_S1024x1024_S1024x1024_0_0 (arg1.view.read (Elt F) f0), ← View.ld_unit_zero z2 inb_S1024x100_S1024x100_0_0 (arg2.view.read (Elt F) f1), ← View.ld_unit_zero z2 inb_S1x100_S1x100_0_0 (arg3.view.read (Elt F) f2)]
  rfl

/-- The point that stores a row of the scores, -/
def slot (y : S4096x100.Idx) : Fin cfg0.N := ⟨(y 0).val / 1024, by have := (y 0).isLt; show _ < 4; have h : S4096x100.size 0 = 4096 := rfl; omega⟩
/-- and the row's place in that point's block. -/
def within (y : S4096x100.Idx) : S1024x100.Idx
  | ⟨0, _⟩ => ⟨(y 0).val % 1024, Nat.mod_lt _ (by decide)⟩
  | ⟨1, _⟩ => ⟨(y 1).val, (y 1).isLt⟩

/-- The scores of every row, from the blocks: row `1024 s + r` is row `r` of point `s`'s block. -/
def scores (c : Dev nD) : Vec F S4096x100 .f32 := fun y =>
  k0_pay25 (iblk W c 0 (slot y)) (iblk W c 1 (slot y)) (iblk W c 2 (slot y)) (within y)

/-- Scores agreeing with the final ones below point `n`'s slice do so below the next once the slice is put there. -/
theorem put_agree (c : Dev nD) (t : Fin cfg0.N) (Y : Vec F S4096x100 .f32) (h : ∀ y : S4096x100.Idx, (y 0).val < 1024 * t.val → Y y = scores W c y)
    (y : S4096x100.Idx) (hy : (y 0).val < 1024 * (t.val + 1)) :
    VecWindow.put Y (k0_off1 (grid0.coords t)) S1024x100.size (k0_pay25 (iblk W c 0 t) (iblk W c 1 t) (iblk W c 2 t)) y = scores W c y := by
  rw [off_eq]
  unfold VecWindow.put
  by_cases hin : ∀ a, (![1024 * t.val, 0] : Fin 2 → ℕ) a ≤ (y a).val ∧ (y a).val < (![1024 * t.val, 0] : Fin 2 → ℕ) a + S1024x100.size a
  · rw [dif_pos hin]
    have h0 : 1024 * t.val ≤ (y 0).val := (hin 0).1
    have hs : slot y = t := Fin.ext (show (y 0).val / 1024 = t.val by omega)
    unfold scores
    rw [hs]
    congr 1
    funext a
    refine Fin.ext ?_
    rw [Rect.unitLocal_val]
    match a with
    | ⟨0, _⟩ => show (y 0).val - 1024 * t.val = (y 0).val % 1024; omega
    | ⟨1, _⟩ => show (y 1).val - 0 = (y 1).val; omega
  · rw [dif_neg hin]
    refine h y (Nat.lt_of_not_le fun hle => hin fun a => ?_)
    match a with
    | ⟨0, _⟩ => exact ⟨hle, show (y 0).val < 1024 * t.val + 1024 by omega⟩
    | ⟨1, _⟩ => exact ⟨Nat.zero_le _, show (y 1).val < 0 + 100 from by have := (y 1).isLt; rw [Nat.zero_add]; exact this⟩

/-- The scratch before point `n`: the final scores on the rows the points before stored. -/
def Inv (c : Dev nD) (n : ℕ) : sProp 𝕄 :=
  iprop(∃ Y, ⌜∀ y : S4096x100.Idx, (y 0).val < 1024 * n → Y y = scores W c y⌝ ∗ owns (c : Thread nD τ) (Memref.whole cc0_scratch0 : Memref sig .tc .vmem S4096x100 .f32) fullShare Y)

/-- The region's proof data: arrays as found, each input's buffer left at its block, the outputs' at the scores, the queries,
    the values and the indices; the invariant the scratch's contents; nothing owed. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => iblk W c 9 t
    | ⟨10, _⟩ => iblk W c 10 t
    | ⟨11, _⟩ => k0_pay24 (iblk W c 0 t) (iblk W c 1 t) (iblk W c 2 t)
    | ⟨12, _⟩ => outQ (iblk W c 0 t) (iblk W c 3 t) (iblk W c 4 t) (iblk W c 5 t) (iblk W c 6 t)
    | ⟨13, _⟩ => outV (iblk W c 0 t) (iblk W c 7 t) (iblk W c 8 t) (iblk W c 9 t) (iblk W c 10 t)
    | ⟨14, _⟩ => outI (scores W c)
  Φ t := iprop(Inv W c t.val ∗ Pipeline.scopedRestBut spec0 c [cc0_scratch0])
  q _ := fullShare
  owed _ := 0

theorem A_eq (c : Dev nD) (w : Fin cfg0.W) : (dat W c).A w = W c (Proc.devRef .tc (Pipeline.arrRef spec0 w)) := by
  dsimp only [dat]

theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = iblk W c 4 t := by dsimp only [dat]
theorem after_5 (c : Dev nD) (t : Fin cfg0.N) : (dat W c).after 5 t = iblk W c 5 t := by dsimp only [dat]
theorem after_6 (c : Dev nD) (t : Fin cfg0.N) : (dat W c).after 6 t = iblk W c 6 t := by dsimp only [dat]
theorem after_7 (c : Dev nD) (t : Fin cfg0.N) : (dat W c).after 7 t = iblk W c 7 t := by dsimp only [dat]
theorem after_8 (c : Dev nD) (t : Fin cfg0.N) : (dat W c).after 8 t = iblk W c 8 t := by dsimp only [dat]
theorem after_9 (c : Dev nD) (t : Fin cfg0.N) : (dat W c).after 9 t = iblk W c 9 t := by dsimp only [dat]
theorem after_10 (c : Dev nD) (t : Fin cfg0.N) : (dat W c).after 10 t = iblk W c 10 t := by dsimp only [dat]
theorem after_11 (c : Dev nD) (t : Fin cfg0.N) : (dat W c).after 11 t = k0_pay24 (iblk W c 0 t) (iblk W c 1 t) (iblk W c 2 t) := by dsimp only [dat]
theorem after_12 (c : Dev nD) (t : Fin cfg0.N) : (dat W c).after 12 t = outQ (iblk W c 0 t) (iblk W c 3 t) (iblk W c 4 t) (iblk W c 5 t) (iblk W c 6 t) := by dsimp only [dat]
theorem after_13 (c : Dev nD) (t : Fin cfg0.N) : (dat W c).after 13 t = outV (iblk W c 0 t) (iblk W c 7 t) (iblk W c 8 t) (iblk W c 9 t) (iblk W c 10 t) := by dsimp only [dat]
theorem after_14 (c : Dev nD) (t : Fin cfg0.N) : (dat W c).after 14 t = outI (scores W c) := by dsimp only [dat]

/-- An input's buffer holds its block when the body runs, whether fetched at this point or before. -/
theorem before_0 (c : Dev nD) (t : Fin cfg0.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dat W c).before 3 t d = iblk W c 3 t :=
  ((dat W c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dat W c).before 4 t d = iblk W c 4 t :=
  ((dat W c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg0.N) (d) : (dat W c).before 5 t d = iblk W c 5 t :=
  ((dat W c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin cfg0.N) (d) : (dat W c).before 6 t d = iblk W c 6 t :=
  ((dat W c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem before_7 (c : Dev nD) (t : Fin cfg0.N) (d) : (dat W c).before 7 t d = iblk W c 7 t :=
  ((dat W c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)
theorem before_8 (c : Dev nD) (t : Fin cfg0.N) (d) : (dat W c).before 8 t d = iblk W c 8 t :=
  ((dat W c).before_in_eq_fetched 8 rfl (fun _ => rfl) (fun _ _ _ => rfl)
    (fun t => by rw [after_8]; unfold Dat.blockOf iblk; rw [A_eq]; try rfl) t d).trans (by unfold Dat.fetched Dat.blockOf iblk; rw [A_eq]; try rfl)
theorem before_9 (c : Dev nD) (t : Fin cfg0.N) (d) : (dat W c).before 9 t d = iblk W c 9 t :=
  ((dat W c).before_in_eq_fetched 9 rfl (fun _ => rfl) (fun _ _ _ => rfl)
    (fun t => by rw [after_9]; unfold Dat.blockOf iblk; rw [A_eq]; try rfl) t d).trans (by unfold Dat.fetched Dat.blockOf iblk; rw [A_eq]; try rfl)
theorem before_10 (c : Dev nD) (t : Fin cfg0.N) (d) : (dat W c).before 10 t d = iblk W c 10 t :=
  ((dat W c).before_in_eq_fetched 10 rfl (fun _ => rfl) (fun _ _ _ => rfl)
    (fun t => by rw [after_10]; unfold Dat.blockOf iblk; rw [A_eq]; try rfl) t d).trans (by unfold Dat.fetched Dat.blockOf iblk; rw [A_eq]; try rfl)

/-- What the body is called with: the invariant and the windows' buffers one by one, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d))
    ∗ (∃ d, owns (c : Thread nD τ) (st0_10 t) fullShare ((dat W c).before 10 t d))
    ∗ (∃ d, owns (c : Thread nD τ) (st0_11 t) fullShare ((dat W c).before 11 t d))
    ∗ (∃ d, owns (c : Thread nD τ) (st0_12 t) fullShare ((dat W c).before 12 t d))
    ∗ (∃ d, owns (c : Thread nD τ) (st0_13 t) fullShare ((dat W c).before 13 t d))
    ∗ (∃ d, owns (c : Thread nD τ) (st0_14 t) fullShare ((dat W c).before 14 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t)
    ∗ owns (c : Thread nD τ) (st0_10 t) fullShare ((dat W c).after 10 t)
    ∗ owns (c : Thread nD τ) (st0_11 t) fullShare ((dat W c).after 11 t)
    ∗ owns (c : Thread nD τ) (st0_12 t) fullShare ((dat W c).after 12 t)
    ∗ owns (c : Thread nD τ) (st0_13 t) fullShare ((dat W c).after 13 t)
    ∗ (dat W c).leavesExact 14 t)

set_option maxHeartbeats 2000000 in
/-- The body at any point: by whether it is the last. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5, before_6, before_7, before_8, before_9, before_10]
  rw [show (dat W c).Φ t.castSucc = iprop(Inv W c t.val ∗ Pipeline.scopedRestBut spec0 c [cc0_scratch0]) from rfl,
    show (dat W c).Φ t.succ = iprop(Inv W c (t.val + 1) ∗ Pipeline.scopedRestBut spec0 c [cc0_scratch0]) from rfl,
    show (dat W c).owesAt () t.succ = (dat W c).owesAt () t.castSucc from rfl,
    after_0, after_1, after_2, after_3, after_4, after_5, after_6, after_7, after_8, after_9, after_10, after_11, after_12, after_13]
  unfold Inv
  by_cases h3 : t.val = 3
  · rw [show (dat W c).leavesExact 14 t = owns (c : Thread nD τ) (st0_14 t) fullShare ((dat W c).after 14 t) from by
      unfold Dat.leavesExact; rw [live_14 t h3], after_14]
    iintro ⟨⟨⟨%Y, %hY, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hP : VecWindow.put Y (k0_off1 (grid0.coords t)) S1024x100.size (k0_pay25 (iblk W c 0 t) (iblk W c 1 t) (iblk W c 2 t)) = scores W c :=
      funext fun y => put_agree W c t Y hY y (by rw [h3]; exact (y 0).isLt)
    iapply (run_last c Set.univ (grid0.coords t) _ _ _ _ _ _ _ _ _ _ _ _ _ _ _ _ _ _ _ _ _ _ _ _ _ _ _ _ _ _ _ _ ((isLast_iff t).mpr h3) (iblk W c 0 t) (iblk W c 1 t) (iblk W c 2 t) (iblk W c 3 t) (iblk W c 4 t) (iblk W c 5 t) (iblk W c 6 t) (iblk W c 7 t) (iblk W c 8 t) (iblk W c 9 t) (iblk W c 10 t) Y _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS HR]
    · isplitl [HS]
      · iexists _; isplitr
        swap; · iexact HS
        ipureintro
        exact put_agree W c t Y hY
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    rw [hP]; iexact H14
  · rw [Dat.leavesExact_idle (dat W c) 14 t (idle_14 t h3) (noFlush_14 t h3)]
    iintro ⟨⟨⟨%Y, %hY, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_fill c Set.univ (grid0.coords t) _ _ _ _ _ _ _ _ _ _ _ _ _ _ _ _ _ _ _ _ _ _ _ _ _ _ _ _ _ _ _ _ (fun h => h3 ((isLast_iff t).mp h)) (iblk W c 0 t) (iblk W c 1 t) (iblk W c 2 t) (iblk W c 3 t) (iblk W c 4 t) (iblk W c 5 t) (iblk W c 6 t) (iblk W c 7 t) (iblk W c 8 t) (iblk W c 9 t) (iblk W c 10 t) Y ((dat W c).before 14 t d14) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS]; · iexact HS
    iintro ⟨H0, H1, H2, H3, H4, H5, H6, H7, H8, H9, H10, H11, H12, H13, H14, HS⟩
    isplitl [HS HR]
    · isplitl [HS]
      · iexists _; isplitr
        swap; · iexact HS
        ipureintro
        exact put_agree W c t Y hY
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's obligation at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

/-- The scoped buffers at anything give the invariant before the first point, -/
theorem enter (c : Dev nD) : (Pipeline.scopedRest spec0 c : sProp 𝕄) ⊢ (dat W c).Φ 0 := by
  rw [scopedRest0_split, show (dat W c).Φ 0 = iprop(Inv W c 0 ∗ Pipeline.scopedRestBut spec0 c [cc0_scratch0]) from rfl]
  unfold Inv
  simp only [owns_whole]
  iintro ⟨⟨%f, HS⟩, HR⟩
  isplitl [HS]
  · iexists f; isplitr
    · ipureintro; exact fun y h => absurd h (Nat.not_lt_zero _)
    iexact HS
  iexact HR

/-- and the invariant after the last gives them back. -/
theorem leave (c : Dev nD) : (dat W c).Φ (Fin.last cfg0.N) ⊢ (Pipeline.scopedRest spec0 c : sProp 𝕄) := by
  rw [scopedRest0_split, show (dat W c).Φ (Fin.last cfg0.N) = iprop(Inv W c 4 ∗ Pipeline.scopedRestBut spec0 c [cc0_scratch0]) from rfl]
  unfold Inv
  simp only [owns_whole]
  iintro ⟨⟨%Y, -, HS⟩, HR⟩
  isplitl [HS]; · iexists _; iexact HS
  iexact HR

end Cert.KernelIdeal.Proj

end
-- ==== Proof.KeyRegion.lean ====
/-
  The key-projection call (region 1) of the idealised kernel, for any float values: what its body leaves in each window's
  buffer and in the accumulator it carries from point to point, the pipeline's proof data from any contents of memory at
  the region's entry, and the body's obligation.
-/
module

public import proofs.«01_k».proof.Proof.Base

@[expose] public section

set_option maxRecDepth 16384

noncomputable section

namespace Cert.KernelIdeal.KeyProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Entry F)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The row of indices the point reads; -/
abbrev ri (i : grid1.Coords) : Rect S8x100 := Rect.unit (s := S8x100) (k1_off1 i) S1x100.size (k1_off1_inb i)
/-- the whole of the rows gathered from, -/
abbrev rx : Rect S4096x1024 := Rect.unit (s := S4096x1024) ![0, 0] S4096x1024.size inb_S4096x1024_S4096x1024_0_0
/-- of a weight block, -/
abbrev rw1 : Rect S1024x1024 := Rect.unit (s := S1024x1024) ![0, 0] S1024x1024.size inb_S1024x1024_S1024x1024_0_0
/-- of a bias or scale row, -/
abbrev rb : Rect S1x1024 := Rect.unit (s := S1x1024) ![0, 0] S1x1024.size inb_S1x1024_S1x1024_0_0
/-- of the accumulator, -/
abbrev ra : Rect S100x1024 := Rect.unit (s := S100x1024) ![0, 0] S100x1024.size inb_S100x1024_S100x1024_0_0
/-- and of the output. -/
abbrev ro : Rect S16x100x64 := Rect.unit (s := S16x100x64) ![0, 0, 0] S16x100x64.size inb_S16x100x64_S16x100x64_0_0_0

theorem z2 : (![0, 0] : Fin 2 → Nat) = fun _ => 0 := by decide
theorem z3 : (![0, 0, 0] : Fin 3 → Nat) = fun _ => 0 := by decide

/-- What the first point stores in the accumulator, -/
def first (i : grid1.Coords) (x0 : Vec F S8x100 .i32) (x1 : Vec F S4096x1024 .f32) (x2 : Vec F S1024x1024 .f32) : Vec F S100x1024 .f32 :=
  k1_pay2 (View.ld x0 (ri i)) x1 x2
/-- what a later point stores there over contents `xs`, -/
def next (i : grid1.Coords) (x0 : Vec F S8x100 .i32) (x1 : Vec F S4096x1024 .f32) (x2 : Vec F S1024x1024 .f32) (xs : Vec F S100x1024 .f32) : Vec F S100x1024 .f32 :=
  k1_pay3 (View.ld x0 (ri i)) x1 x2 xs

/-- A store of the whole accumulator covers it; -/
theorem coverS (p0 : Vec F S100x1024 .f32) (y : S100x1024.Idx) :
    ∃ pc ∈ ([⟨ra, p0⟩] : List (View.Piece (Elt F) S100x1024 .f32)), y ∈ pc.1.set :=
  View.cover_of_tiled [⟨ra, p0⟩] S100x1024.size (by rfl) y
/-- one of the whole output covers that. -/
theorem coverK (p0 : Vec F S16x100x64 .bf16) (y : S16x100x64.Idx) :
    ∃ pc ∈ ([⟨ro, p0⟩] : List (View.Piece (Elt F) S16x100x64 .bf16)), y ∈ pc.1.set :=
  View.cover_of_tiled [⟨ro, p0⟩] S16x100x64.size (by rfl) y

/-- The point is the first; -/
abbrev isFirst (i : grid1.Coords) : Prop := (Scalar.cmpi .ne (Scalar.extui (Scalar.cmpi .eq (BitVec.ofNat 32 (i 0).val) 0#32)) 0#32) = 1#1
/-- is not the first; -/
abbrev isLater (i : grid1.Coords) : Prop := (Scalar.cmpi .ne (Scalar.extui (Scalar.cmpi .sgt (BitVec.ofNat 32 (i 0).val) 0#32)) 0#32) = 1#1
/-- is the last. -/
abbrev isLast (i : grid1.Coords) : Prop := k1_cond3 i = 1#1

theorem isFirst_iff : ∀ t : Fin cfg1.N, isFirst (grid1.coords t) ↔ t.val = 0 :=
  (by decide +kernel : ∀ t : Fin grid1.N, isFirst (grid1.coords t) ↔ t.val = 0)
theorem isLater_iff : ∀ t : Fin cfg1.N, isLater (grid1.coords t) ↔ t.val ≠ 0 :=
  (by decide +kernel : ∀ t : Fin grid1.N, isLater (grid1.coords t) ↔ t.val ≠ 0)
theorem isLast_iff : ∀ t : Fin cfg1.N, isLast (grid1.coords t) ↔ t.val = 7 :=
  (by decide +kernel : ∀ t : Fin grid1.N, isLast (grid1.coords t) ↔ t.val = 7)
/-- Before the last point the output is neither stored nor written back; at the last it is. -/
theorem idle_6 : ∀ t : Fin cfg1.N, t.val ≠ 7 → cfg1.idle 6 (grid1.coords t) = true :=
  (by decide +kernel : ∀ t : Fin grid1.N, t.val ≠ 7 → cfg1.idle 6 (grid1.coords t) = true)
theorem noFlush_6 : ∀ t : Fin cfg1.N, t.val ≠ 7 → (cfg1.win 6).flush t = false :=
  (by decide +kernel : ∀ t : Fin grid1.N, t.val ≠ 7 → (cfg1.win 6).flush t = false)
theorem live_6 : ∀ t : Fin cfg1.N, t.val = 7 → cfg1.idle 6 (grid1.coords t) = false :=
  (by decide +kernel : ∀ t : Fin grid1.N, t.val = 7 → cfg1.idle 6 (grid1.coords t) = false)

set_option maxHeartbeats 2000000 in
/-- At the first point the accumulator is set, whatever it held, and the output is left alone. -/
theorem run_first (c : Dev nD) (E : Set ℕ) (i : grid1.Coords) (arg1 : Memref sig .tc .vmem S8x100 .i32) (harg1 : arg1.IsWhole) (arg2 : Memref sig .tc .vmem S4096x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S16x100x64 .bf16) (harg7 : arg7.IsWhole) (arg8 : Memref sig .tc .vmem S100x1024 .f32) (harg8 : arg8.IsWhole) (hc0 : isFirst i) (hc1 : ¬isLater i) (hc2 : ¬isLast i)
    (x0 : Vec F S8x100 .i32) (x1 : Vec F S4096x1024 .f32) (x2 : Vec F S1024x1024 .f32) (x3 : Vec F S1x1024 .f32) (x4 : Vec F S1x1024 .f32) (x5 : Vec F S1x1024 .f32) (d7 : Vec F S16x100x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare (first i x0 x1 x2)) -∗ K ⟨⟩))
      ⊢ wp frame (wpE (defs₀ (F := F)) Variants.none c none) E (cc1__kproj_kernel i arg1 harg1 arg2 harg2 arg3 harg3 arg4 harg4 arg5 harg5 arg6 harg6 arg7 harg7 arg8 harg8) K := by
  simp only [cc1__kproj_kernel_eq_skeleton]; unfold cc1__kproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, Hk⟩
  subst hf0 hf1 hf2 hf3 hf4 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  refine (View.read_writes_eq_canon _ _ _ (coverS _)).trans ((View.canon_unit_zero z2 _ _).trans ?_)
  unfold first
  rw [← View.ld_unit_zero z2 inb_S4096x1024_S4096x1024_0_0 (arg2.view.read (Elt F) f1), ← View.ld_unit_zero z2 inb_S1024x1024_S1024x1024_0_0 (arg3.view.read (Elt F) f2)]
  rfl

set_option maxHeartbeats 2000000 in
/-- At a point between, a term is added to the accumulator and the output is left alone. -/
theorem run_middle (c : Dev nD) (E : Set ℕ) (i : grid1.Coords) (arg1 : Memref sig .tc .vmem S8x100 .i32) (harg1 : arg1.IsWhole) (arg2 : Memref sig .tc .vmem S4096x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S16x100x64 .bf16) (harg7 : arg7.IsWhole) (arg8 : Memref sig .tc .vmem S100x1024 .f32) (harg8 : arg8.IsWhole) (hc0 : ¬isFirst i) (hc1 : isLater i) (hc2 : ¬isLast i)
    (x0 : Vec F S8x100 .i32) (x1 : Vec F S4096x1024 .f32) (x2 : Vec F S1024x1024 .f32) (x3 : Vec F S1x1024 .f32) (x4 : Vec F S1x1024 .f32) (x5 : Vec F S1x1024 .f32) (d7 : Vec F S16x100x64 .bf16) (xs : Vec F S100x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d7 ∗ owns (c : Thread nD τ) arg8 fullShare (next i x0 x1 x2 xs)) -∗ K ⟨⟩))
      ⊢ wp frame (wpE (defs₀ (F := F)) Variants.none c none) E (cc1__kproj_kernel i arg1 harg1 arg2 harg2 arg3 harg3 arg4 harg4 arg5 harg5 arg6 harg6 arg7 harg7 arg8 harg8) K := by
  simp only [cc1__kproj_kernel_eq_skeleton]; unfold cc1__kproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, Hk⟩
  subst hf0 hf1 hf2 hf3 hf4 hf5 hf6 hf8
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H8
  ipureintro
  refine (View.read_writes_eq_canon _ _ _ (coverS _)).trans ((View.canon_unit_zero z2 _ _).trans ?_)
  unfold next
  rw [← View.ld_unit_zero z2 inb_S4096x1024_S4096x1024_0_0 (arg2.view.read (Elt F) f1), ← View.ld_unit_zero z2 inb_S1024x1024_S1024x1024_0_0 (arg3.view.read (Elt F) f2),
    ← View.ld_unit_zero z2 inb_S100x1024_S100x1024_0_0 (arg8.view.read (Elt F) f8)]
  rfl

set_option maxHeartbeats 2000000 in
/-- At the last point a term is added and the output is stored from the accumulator. -/
theorem run_last (c : Dev nD) (E : Set ℕ) (i : grid1.Coords) (arg1 : Memref sig .tc .vmem S8x100 .i32) (harg1 : arg1.IsWhole) (arg2 : Memref sig .tc .vmem S4096x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S16x100x64 .bf16) (harg7 : arg7.IsWhole) (arg8 : Memref sig .tc .vmem S100x1024 .f32) (harg8 : arg8.IsWhole) (hc0 : ¬isFirst i) (hc1 : isLater i) (hc2 : isLast i)
    (x0 : Vec F S8x100 .i32) (x1 : Vec F S4096x1024 .f32) (x2 : Vec F S1024x1024 .f32) (x3 : Vec F S1x1024 .f32) (x4 : Vec F S1x1024 .f32) (x5 : Vec F S1x1024 .f32) (xs : Vec F S100x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay4 (next i x0 x1 x2 xs) x3 x4 x5) ∗ owns (c : Thread nD τ) arg8 fullShare (next i x0 x1 x2 xs)) -∗ K ⟨⟩))
      ⊢ wp frame (wpE (defs₀ (F := F)) Variants.none c none) E (cc1__kproj_kernel i arg1 harg1 arg2 harg2 arg3 harg3 arg4 harg4 arg5 harg5 arg6 harg6 arg7 harg7 arg8 harg8) K := by
  simp only [cc1__kproj_kernel_eq_skeleton]; unfold cc1__kproj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f6, -, H6⟩, ⟨%f8, %hf8, H8⟩, Hk⟩
  subst hf0 hf1 hf2 hf3 hf4 hf5 hf8
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  have hn : k1_pay3 (View.ld (arg1.view.read (Elt F) f0) (ri i)) (View.ld (arg2.view.read (Elt F) f1) rx) (View.ld (arg3.view.read (Elt F) f2) rw1) (View.ld (arg8.view.read (Elt F) f8) ra)
      = next i (arg1.view.read (Elt F) f0) (arg2.view.read (Elt F) f1) (arg3.view.read (Elt F) f2) (arg8.view.read (Elt F) f8) := by
    unfold next
    rw [View.ld_unit_zero z2, View.ld_unit_zero z2, View.ld_unit_zero z2]
  isplitl [H6]
  · iexists _; isplitr
    swap; · iexact H6
    ipureintro
    refine (View.read_writes_eq_canon _ _ _ (coverK _)).trans ((View.canon_unit_zero z3 _ _).trans ?_)
    rw [← hn]
    refine congr (congr (congr (congrArg k1_pay4 ?_) ?_) ?_) ?_
    · exact View.readCov_unit_zero arg8.view z2 inb_S100x1024_S100x1024_0_0 _
    · exact View.ld_unit_zero z2 inb_S1x1024_S1x1024_0_0 (arg4.view.read (Elt F) f3)
    · exact View.ld_unit_zero z2 inb_S1x1024_S1x1024_0_0 (arg5.view.read (Elt F) f4)
    · exact View.ld_unit_zero z2 inb_S1x1024_S1x1024_0_0 (arg6.view.read (Elt F) f5)
  iexists _; isplitr
  swap; · iexact H8
  ipureintro
  refine (View.read_writes_eq_canon _ _ _ (coverS _)).trans ((View.canon_unit_zero z2 _ _).trans ?_)
  exact hn

/-- What the accumulator holds after each point, from what the points found. -/
def acc (c : Dev nD) : (n : ℕ) → n < cfg1.N → Vec F S100x1024 .f32
  | 0, h => first (grid1.coords ⟨0, h⟩) (iblk W c 0 ⟨0, h⟩) (iblk W c 1 ⟨0, h⟩) (iblk W c 2 ⟨0, h⟩)
  | n + 1, h => next (grid1.coords ⟨n + 1, h⟩) (iblk W c 0 ⟨n + 1, h⟩) (iblk W c 1 ⟨n + 1, h⟩) (iblk W c 2 ⟨n + 1, h⟩) (acc c n (Nat.lt_of_succ_lt h))

/-- The accumulator before point `n`: at anything before the first, afterwards at what the point before left. -/
def Inv (c : Dev nD) : (n : ℕ) → n ≤ cfg1.N → sProp 𝕄
  | 0, _ => iprop(∃ d, owns (c : Thread nD τ) (Memref.whole cc1_scratch0 : Memref sig .tc .vmem S100x1024 .f32) fullShare d)
  | n + 1, h => owns (c : Thread nD τ) (Memref.whole cc1_scratch0 : Memref sig .tc .vmem S100x1024 .f32) fullShare (acc W c n h)

/-- The region's proof data: arrays as found, each input's buffer left at its block, the output's at the normalised
    accumulator; the invariant the accumulator's contents; nothing owed. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => k1_pay4 (acc W c t.val t.isLt) (iblk W c 3 t) (iblk W c 4 t) (iblk W c 5 t)
  Φ t := iprop(Inv W c t.val (Nat.le_of_lt_succ t.isLt) ∗ Pipeline.scopedRestBut spec1 c [cc1_scratch0])
  q _ := fullShare
  owed _ := 0

theorem A_eq (c : Dev nD) (w : Fin cfg1.W) : (dat W c).A w = W c (Proc.devRef .tc (Pipeline.arrRef spec1 w)) := by
  dsimp only [dat]

theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = iblk W c 3 t := by dsimp only [dat]
theorem after_4 (c : Dev nD) (t : Fin cfg1.N) : (dat W c).after 4 t = iblk W c 4 t := by dsimp only [dat]
theorem after_5 (c : Dev nD) (t : Fin cfg1.N) : (dat W c).after 5 t = iblk W c 5 t := by dsimp only [dat]
theorem after_6 (c : Dev nD) (t : Fin cfg1.N) : (dat W c).after 6 t = k1_pay4 (acc W c t.val t.isLt) (iblk W c 3 t) (iblk W c 4 t) (iblk W c 5 t) := by dsimp only [dat]

/-- An input's buffer holds its block when the body runs, whether fetched at this point or before. -/
theorem before_0 (c : Dev nD) (t : Fin cfg1.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg1.N) (d) : (dat W c).before 3 t d = iblk W c 3 t :=
  ((dat W c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg1.N) (d) : (dat W c).before 4 t d = iblk W c 4 t :=
  ((dat W c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg1.N) (d) : (dat W c).before 5 t d = iblk W c 5 t :=
  ((dat W c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)

/-- What the body is called with: the invariant and the windows' buffers one by one, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d)))

/-- and what it returns. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ (dat W c).leavesExact 6 t)

theorem Inv_pos (c : Dev nD) (n : ℕ) (h : n < cfg1.N) (hz : n ≠ 0) :
    ∃ h', Inv W c n (Nat.le_of_lt h) = owns (c : Thread nD τ) (Memref.whole cc1_scratch0 : Memref sig .tc .vmem S100x1024 .f32) fullShare (acc W c (n - 1) h')
      ∧ acc W c n h = next (grid1.coords ⟨n, h⟩) (iblk W c 0 ⟨n, h⟩) (iblk W c 1 ⟨n, h⟩) (iblk W c 2 ⟨n, h⟩) (acc W c (n - 1) h') := by
  cases n with
  | zero => exact absurd rfl hz
  | succ n => exact ⟨Nat.lt_of_succ_lt h, rfl, rfl⟩

theorem acc_first (c : Dev nD) (t : Fin cfg1.N) (h : t.val = 0) :
    acc W c t.val t.isLt = first (grid1.coords t) (iblk W c 0 t) (iblk W c 1 t) (iblk W c 2 t) := by
  obtain ⟨n, hn⟩ := t
  cases n with
  | zero => rfl
  | succ n => exact absurd h (Nat.succ_ne_zero n)

theorem Inv_first (c : Dev nD) (n : ℕ) (h : n ≤ cfg1.N) (hz : n = 0) :
    Inv W c n h = iprop(∃ d, owns (c : Thread nD τ) (Memref.whole cc1_scratch0 : Memref sig .tc .vmem S100x1024 .f32) fullShare d) := by
  subst hz; rfl

set_option maxHeartbeats 1000000 in
/-- The body at any point: by whether it is the first, the last or one between. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5]
  rw [show (dat W c).Φ t.castSucc = iprop(Inv W c t.val (Nat.le_of_lt t.isLt) ∗ Pipeline.scopedRestBut spec1 c [cc1_scratch0]) from rfl,
    show (dat W c).Φ t.succ = iprop(owns (c : Thread nD τ) (Memref.whole cc1_scratch0 : Memref sig .tc .vmem S100x1024 .f32) fullShare (acc W c t.val t.isLt)
      ∗ Pipeline.scopedRestBut spec1 c [cc1_scratch0]) from rfl,
    show (dat W c).owesAt () t.succ = (dat W c).owesAt () t.castSucc from rfl,
    after_0, after_1, after_2, after_3, after_4, after_5]
  by_cases h0 : t.val = 0
  · have h7 : t.val ≠ 7 := by omega
    rw [Dat.leavesExact_idle (dat W c) 6 t (idle_6 t h7) (noFlush_6 t h7), Inv_first W c _ _ h0, acc_first W c t h0]
    iintro ⟨⟨HS, HR⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) _ _ _ _ _ _ _ _ _ _ _ _ _ _ _ _ ((isFirst_iff t).mpr h0) (fun h => (isLater_iff t).mp h h0) (fun h => h7 ((isLast_iff t).mp h)) (iblk W c 0 t) (iblk W c 1 t) (iblk W c 2 t) (iblk W c 3 t) (iblk W c 4 t) (iblk W c 5 t) ((dat W c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · obtain ⟨h', hI, hA⟩ := Inv_pos W c t.val t.isLt h0
    rw [hI]
    by_cases h7 : t.val = 7
    · rw [show (dat W c).leavesExact 6 t = owns (c : Thread nD τ) (st1_6 t) fullShare ((dat W c).after 6 t) from by
        unfold Dat.leavesExact; rw [live_6 t h7], after_6, hA]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ (fun h => h0 ((isFirst_iff t).mp h)) ((isLater_iff t).mpr h0) ((isLast_iff t).mpr h7) (iblk W c 0 t) (iblk W c 1 t) (iblk W c 2 t) (iblk W c 3 t) (iblk W c 4 t) (iblk W c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat W c) 6 t (idle_6 t h7) (noFlush_6 t h7), hA]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run_middle c Set.univ (grid1.coords t) _ _ _ _ _ _ _ _ _ _ _ _ _ _ _ _ (fun h => h0 ((isFirst_iff t).mp h)) ((isLater_iff t).mpr h0) (fun h => h7 ((isLast_iff t).mp h)) (iblk W c 0 t) (iblk W c 1 t) (iblk W c 2 t) (iblk W c 3 t) (iblk W c 4 t) (iblk W c 5 t) ((dat W c).before 6 t d6) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at a point's slots is the body there. -/
theorem defs₀_row (t : Fin cfg1.N) :
    defs₀ (F := F) .tc cfg1.body (cfg1.bodyArgs t (cfg1.slots t)) = bodyAt1 t := by
  unfold defs₀; rw [Defs.onTc_tc]

/-- The pipeline's obligation at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- The scoped buffers at anything give the invariant before the first point, -/
theorem enter (c : Dev nD) : (Pipeline.scopedRest spec1 c : sProp 𝕄) ⊢ (dat W c).Φ 0 := by
  rw [scopedRest1_split, show (dat W c).Φ 0 = iprop((∃ d, owns (c : Thread nD τ) (Memref.whole cc1_scratch0 : Memref sig .tc .vmem S100x1024 .f32) fullShare d)
    ∗ Pipeline.scopedRestBut spec1 c [cc1_scratch0]) from rfl]
  simp only [owns_whole]
  exact .rfl

/-- and the invariant after the last gives them back. -/
theorem leave (c : Dev nD) : (dat W c).Φ (Fin.last cfg1.N) ⊢ (Pipeline.scopedRest spec1 c : sProp 𝕄) := by
  rw [scopedRest1_split, show (dat W c).Φ (Fin.last cfg1.N) = iprop(owns (c : Thread nD τ) (Memref.whole cc1_scratch0 : Memref sig .tc .vmem S100x1024 .f32) fullShare (acc W c 7 (by decide))
    ∗ Pipeline.scopedRestBut spec1 c [cc1_scratch0]) from rfl]
  simp only [owns_whole]
  iintro ⟨HS, HR⟩
  isplitl [HS]; · iexists _; iexact HS
  iexact HR

end Cert.KernelIdeal.KeyProj

end
-- ==== Proof.AttnRegion.lean ====
/-
  The attention call (region 2) of the idealised kernel, for any float values: what its body leaves in each window's
  buffer, the pipeline's proof data from any contents of memory at the region's entry, and the body's obligation.
-/
module

public import proofs.«01_k».proof.Proof.Base

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Entry F)

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The whole of a query or value block; -/
abbrev rq : Rect S4096x128 := Rect.unit (s := S4096x128) ![0, 0] S4096x128.size inb_S4096x128_S4096x128_0_0
/-- one head's slab of a block of keys, or of values; -/
abbrev rk0 : Rect S2x100x64 := Rect.unit (s := S2x100x64) ![0, 0, 0] S1x100x64.size inb_S2x100x64_S1x100x64_0_0_0
abbrev rk1 : Rect S2x100x64 := Rect.unit (s := S2x100x64) ![1, 0, 0] S1x100x64.size inb_S2x100x64_S1x100x64_1_0_0
/-- and one head's slab of a block of attention weights. -/
abbrev ra0 : Rect S2x4096x100 := Rect.unit (s := S2x4096x100) ![0, 0, 0] S1x4096x100.size inb_S2x4096x100_S1x4096x100_0_0_0
abbrev ra1 : Rect S2x4096x100 := Rect.unit (s := S2x4096x100) ![1, 0, 0] S1x4096x100.size inb_S2x4096x100_S1x4096x100_1_0_0

/-- The attention weights the body leaves: one store per head, the second head's last. -/
def outA (x0 : Vec F S4096x128 .bf16) (x1 : Vec F S2x100x64 .bf16) : Vec F S2x4096x100 .f32 :=
  View.canon [⟨ra1, k2_pay2 (k2_pay10 (View.ld x0 rq) (View.ld x1 rk1)) (k2_pay11 (View.ld x0 rq) (View.ld x1 rk1))⟩,
    ⟨ra0, k2_pay7 (View.ld x0 rq) (View.ld x1 rk0)⟩]

/-- The values the body leaves: one store per head. -/
def outV (x0 : Vec F S4096x128 .bf16) (x1 : Vec F S2x100x64 .bf16) (x2 : Vec F S4096x128 .bf16) : Vec F S2x100x64 .f32 :=
  View.canon [⟨rk1, k2_pay3 (k2_pay9 (View.ld x2 rq)) (k2_pay10 (View.ld x0 rq) (View.ld x1 rk1)) (k2_pay11 (View.ld x0 rq) (View.ld x1 rk1))⟩,
    ⟨rk0, k2_pay8 (View.ld x0 rq) (View.ld x2 rq) (View.ld x1 rk0)⟩]

/-- The two stores of attention weights cover the buffer, -/
theorem coverA (p0 p1 : Vec F S1x4096x100 .f32) (y : S2x4096x100.Idx) :
    ∃ pc ∈ ([⟨ra1, p0⟩, ⟨ra0, p1⟩] : List (View.Piece (Elt F) S2x4096x100 .f32)), y ∈ pc.1.set :=
  View.cover_of_tiled [⟨ra1, p0⟩, ⟨ra0, p1⟩] S1x4096x100.size (by rfl) y
/-- and so do the two of values. -/
theorem coverV (p0 p1 : Vec F S1x100x64 .f32) (y : S2x100x64.Idx) :
    ∃ pc ∈ ([⟨rk1, p0⟩, ⟨rk0, p1⟩] : List (View.Piece (Elt F) S2x100x64 .f32)), y ∈ pc.1.set :=
  View.cover_of_tiled [⟨rk1, p0⟩, ⟨rk0, p1⟩] S1x100x64.size (by rfl) y

set_option maxHeartbeats 1000000 in
/-- The body on whole staging buffers, the inputs' at given contents and the outputs' at anything, leaves the inputs
    as they were and the outputs at `outA` and `outV` of them. -/
theorem kernel_run (c : Dev nD) (E : Set ℕ) (i : grid2.Coords) (arg1 : Memref sig .tc .vmem S4096x128 .bf16) (harg1 : arg1.IsWhole) (arg2 : Memref sig .tc .vmem S2x100x64 .bf16) (harg2 : arg2.IsWhole) (arg3 : Memref sig .tc .vmem S4096x128 .bf16) (harg3 : arg3.IsWhole) (arg4 : Memref sig .tc .vmem S2x4096x100 .f32) (harg4 : arg4.IsWhole) (arg5 : Memref sig .tc .vmem S2x100x64 .f32) (harg5 : arg5.IsWhole)
    (x0 : Vec F S4096x128 .bf16) (x1 : Vec F S2x100x64 .bf16) (x2 : Vec F S4096x128 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outA x0 x1) ∗ owns (c : Thread nD τ) arg5 fullShare (outV x0 x1 x2)) -∗ K ⟨⟩))
      ⊢ wp frame (wpE (defs₀ (F := F)) Variants.none c none) E (cc2__attn_kernel i arg1 harg1 arg2 harg2 arg3 harg3 arg4 harg4 arg5 harg5) K := by
  simp only [cc2__attn_kernel_eq_skeleton]; unfold cc2__attn_kernel_skel
  simp only [k2_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverA _ _)).trans ?_
    rfl
  iexists _; isplitr
  swap; · iexact H4
  ipureintro
  refine (View.read_writes_eq_canon _ _ _ (coverV _ _)).trans ?_
  rfl

/-- The region's proof data: arrays as found, each input's buffer left at its block and each output's at `outA`,
    `outV` of the input blocks; no invariant beyond the scoped buffers; nothing owed. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => outA (iblk W c 0 t) (iblk W c 1 t)
    | ⟨4, _⟩ => outV (iblk W c 0 t) (iblk W c 1 t) (iblk W c 2 t)
  Φ _ := Pipeline.scopedRest spec2 c
  q _ := fullShare
  owed _ := 0

theorem A_eq (c : Dev nD) (w : Fin cfg2.W) : (dat W c).A w = W c (Proc.devRef .tc (Pipeline.arrRef spec2 w)) := by
  dsimp only [dat]

theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = outA (iblk W c 0 t) (iblk W c 1 t) := by dsimp only [dat]
theorem after_4 (c : Dev nD) (t : Fin cfg2.N) : (dat W c).after 4 t = outV (iblk W c 0 t) (iblk W c 1 t) (iblk W c 2 t) := by dsimp only [dat]

/-- An input's buffer holds its block when the body runs, whether fetched at this point or before. -/
theorem before_0 (c : Dev nD) (t : Fin cfg2.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg2.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg2.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)

/-- The body at any point, from the windows' buffers one by one. -/
theorem sound_body (c : Dev nD) (t : Fin cfg2.N) :
    iprop((dat W c).Φ t.castSucc ∗ (dat W c).owesAt () t.castSucc
        ∗ (∃ d, owns (c : Thread nD τ) (st2_0 t) fullShare ((dat W c).before 0 t d))
        ∗ (∃ d, owns (c : Thread nD τ) (st2_1 t) fullShare ((dat W c).before 1 t d))
        ∗ (∃ d, owns (c : Thread nD τ) (st2_2 t) fullShare ((dat W c).before 2 t d))
        ∗ (∃ d, owns (c : Thread nD τ) (st2_3 t) fullShare ((dat W c).before 3 t d))
        ∗ (∃ d, owns (c : Thread nD τ) (st2_4 t) fullShare ((dat W c).before 4 t d)))
      ⊢ wp frame (wpE (defs₀ (F := F)) Variants.none c none) Set.univ (bodyAt2 t) (fun _ =>
        iprop((dat W c).Φ t.succ ∗ (dat W c).owesAt () t.succ
          ∗ owns (c : Thread nD τ) (st2_0 t) fullShare ((dat W c).after 0 t)
          ∗ owns (c : Thread nD τ) (st2_1 t) fullShare ((dat W c).after 1 t)
          ∗ owns (c : Thread nD τ) (st2_2 t) fullShare ((dat W c).after 2 t)
          ∗ owns (c : Thread nD τ) (st2_3 t) fullShare ((dat W c).after 3 t)
          ∗ owns (c : Thread nD τ) (st2_4 t) fullShare ((dat W c).after 4 t))) := by
  unfold bodyAt2
  simp only [before_0, before_1, before_2]
  rw [show (dat W c).Φ t.succ = (dat W c).Φ t.castSucc from rfl,
    show (dat W c).owesAt () t.succ = (dat W c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (kernel_run c Set.univ (grid2.coords t) _ _ _ _ _ _ _ _ _ _ (iblk W c 0 t) (iblk W c 1 t) (iblk W c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point's slots is the body there. -/
theorem defs₀_row (t : Fin cfg2.N) :
    defs₀ (F := F) .tc cfg2.body (cfg2.bodyArgs t (cfg2.slots t)) = bodyAt2 t := by
  unfold defs₀; rw [Defs.onTc_tc]

/-- The pipeline's obligation at every point. -/
theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

/-- The scoped buffers at anything are the invariant before the first point, -/
theorem enter (c : Dev nD) : (Pipeline.scopedRest spec2 c : sProp 𝕄) ⊢ (dat W c).Φ 0 := by
  dsimp only [dat]; exact .rfl

/-- and after the last. -/
theorem leave (c : Dev nD) : (dat W c).Φ (Fin.last cfg2.N) ⊢ (Pipeline.scopedRest spec2 c : sProp 𝕄) := by
  dsimp only [dat]; exact .rfl

end Cert.KernelIdeal.Attn

end
-- ==== Proof.OutRegion.lean ====
/-
  The output-projection call (region 3) of the idealised kernel, for any float values: what its body leaves in each
  window's buffer, the pipeline's proof data from any contents of memory at the region's entry, and the body's obligation.
-/
module

public import proofs.«01_k».proof.Proof.Base

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Entry F)

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The whole array of values; -/
abbrev rv : Rect S16x100x64 := Rect.unit (s := S16x100x64) ![0, 0, 0] S16x100x64.size inb_S16x100x64_S16x100x64_0_0_0
/-- sixty-four rows of the projection from row `o`; -/
abbrev rp (o : ℕ) (h : ∀ a, (![o, 0] : Fin 2 → Nat) a + S64x1024.size a ≤ S1024x1024.size a) : Rect S1024x1024 :=
  Rect.unit (s := S1024x1024) ![o, 0] S64x1024.size h
/-- the whole of a bias or scale row; -/
abbrev rb : Rect S1x1024 := Rect.unit (s := S1x1024) ![0, 0] S1x1024.size inb_S1x1024_S1x1024_0_0
/-- and the whole output. -/
abbrev ro : Rect S100x1024 := Rect.unit (s := S100x1024) ![0, 0] S100x1024.size inb_S100x1024_S100x1024_0_0

/-- The stored vector from the loaded ones: heads 0 to 5, then 6 to 13, then 14, 15 and the normalisation. -/
def payO (v : Vec F S16x100x64 .f32) (wp : Vec F S1024x1024 .f32) (b g bb : Vec F S1x1024 .f32) : FVec F S100x1024 .f32 :=
  k3_pay6 (k3_pay1 v)
    (k3_pay4 (k3_pay1 v)
      (k3_pay2 v (View.ld wp (rp 0 inb_S1024x1024_S64x1024_0_0)) (View.ld wp (rp 64 inb_S1024x1024_S64x1024_64_0))
        (View.ld wp (rp 128 inb_S1024x1024_S64x1024_128_0)) (View.ld wp (rp 192 inb_S1024x1024_S64x1024_192_0))
        (View.ld wp (rp 256 inb_S1024x1024_S64x1024_256_0)) (View.ld wp (rp 320 inb_S1024x1024_S64x1024_320_0)))
      (k3_pay3 v) (View.ld wp (rp 384 inb_S1024x1024_S64x1024_384_0))
      (View.ld wp (rp 448 inb_S1024x1024_S64x1024_448_0)) (View.ld wp (rp 512 inb_S1024x1024_S64x1024_512_0))
      (View.ld wp (rp 576 inb_S1024x1024_S64x1024_576_0)) (View.ld wp (rp 640 inb_S1024x1024_S64x1024_640_0))
      (View.ld wp (rp 704 inb_S1024x1024_S64x1024_704_0)) (View.ld wp (rp 768 inb_S1024x1024_S64x1024_768_0))
      (View.ld wp (rp 832 inb_S1024x1024_S64x1024_832_0)))
    (k3_pay5 (k3_pay1 v)) (View.ld wp (rp 896 inb_S1024x1024_S64x1024_896_0)) (View.ld wp (rp 960 inb_S1024x1024_S64x1024_960_0))
    (View.ld b rb) (View.ld g rb) (View.ld bb rb)

/-- The output the body leaves: one store of the whole buffer. -/
def outO (x0 : Vec F S16x100x64 .f32) (x1 : Vec F S1024x1024 .f32) (x2 x3 x4 : Vec F S1x1024 .f32) : Vec F S100x1024 .f32 :=
  View.canon [⟨ro, payO (View.ld x0 rv) x1 x2 x3 x4⟩]

/-- The store covers the buffer. -/
theorem coverO (p0 : Vec F S100x1024 .f32) (y : S100x1024.Idx) :
    ∃ pc ∈ ([⟨ro, p0⟩] : List (View.Piece (Elt F) S100x1024 .f32)), y ∈ pc.1.set :=
  View.cover_of_tiled [⟨ro, p0⟩] S100x1024.size (by rfl) y

set_option maxHeartbeats 1000000 in
/-- The body on whole staging buffers, the inputs' at given contents and the output's at anything, leaves the inputs as
    they were and the output at `outO` of them. -/
theorem kernel_run (c : Dev nD) (E : Set ℕ) (arg0 : Memref sig .tc .vmem S16x100x64 .f32) (harg0 : arg0.IsWhole) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S100x1024 .f32) (harg5 : arg5.IsWhole)
    (x0 : Vec F S16x100x64 .f32) (x1 : Vec F S1024x1024 .f32) (x2 : Vec F S1x1024 .f32) (x3 : Vec F S1x1024 .f32) (x4 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outO x0 x1 x2 x3 x4)) -∗ K ⟨⟩))
      ⊢ wp frame (wpE (defs₀ (F := F)) Variants.none c none) E (cc3__out_kernel arg0 harg0 arg1 harg1 arg2 harg2 arg3 harg3 arg4 harg4 arg5 harg5) K := by
  simp only [cc3__out_kernel_eq_skeleton]; unfold cc3__out_kernel_skel
  simp only [k3_part3_eq_skeleton]; unfold k3_part3_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (coverO _)).trans ?_
  rfl

/-- The region's proof data: arrays as found, each input's buffer left at its block and the output's at `outO` of the
    input blocks; no invariant beyond the scoped buffers; nothing owed. -/
def dat (c : Dev nD) : Dat τ (Elt F) Unit ℕ (UR sig nD τ) ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => outO (iblk W c 0 t) (iblk W c 1 t) (iblk W c 2 t) (iblk W c 3 t) (iblk W c 4 t)
  Φ _ := Pipeline.scopedRest spec3 c
  q _ := fullShare
  owed _ := 0

theorem A_eq (c : Dev nD) (w : Fin cfg3.W) : (dat W c).A w = W c (Proc.devRef .tc (Pipeline.arrRef spec3 w)) := by
  dsimp only [dat]

theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = iblk W c 2 t := by dsimp only [dat]
theorem after_3 (c : Dev nD) (t : Fin cfg3.N) : (dat W c).after 3 t = iblk W c 3 t := by dsimp only [dat]
theorem after_4 (c : Dev nD) (t : Fin cfg3.N) : (dat W c).after 4 t = iblk W c 4 t := by dsimp only [dat]
theorem after_5 (c : Dev nD) (t : Fin cfg3.N) : (dat W c).after 5 t = outO (iblk W c 0 t) (iblk W c 1 t) (iblk W c 2 t) (iblk W c 3 t) (iblk W c 4 t) := by dsimp only [dat]

/-- An input's buffer holds its block when the body runs, whether fetched at this point or before. -/
theorem before_0 (c : Dev nD) (t : Fin cfg3.N) (d) : (dat W c).before 0 t d = iblk W c 0 t :=
  ((dat W c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg3.N) (d) : (dat W c).before 1 t d = iblk W c 1 t :=
  ((dat W c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg3.N) (d) : (dat W c).before 2 t d = iblk W c 2 t :=
  ((dat W c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg3.N) (d) : (dat W c).before 3 t d = iblk W c 3 t :=
  ((dat W c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg3.N) (d) : (dat W c).before 4 t d = iblk W c 4 t :=
  ((dat W c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)

/-- The body at any point, from the windows' buffers one by one. -/
theorem sound_body (c : Dev nD) (t : Fin cfg3.N) :
    iprop((dat W c).Φ t.castSucc ∗ (dat W c).owesAt () t.castSucc
        ∗ (∃ d, owns (c : Thread nD τ) (st3_0 t) fullShare ((dat W c).before 0 t d))
        ∗ (∃ d, owns (c : Thread nD τ) (st3_1 t) fullShare ((dat W c).before 1 t d))
        ∗ (∃ d, owns (c : Thread nD τ) (st3_2 t) fullShare ((dat W c).before 2 t d))
        ∗ (∃ d, owns (c : Thread nD τ) (st3_3 t) fullShare ((dat W c).before 3 t d))
        ∗ (∃ d, owns (c : Thread nD τ) (st3_4 t) fullShare ((dat W c).before 4 t d))
        ∗ (∃ d, owns (c : Thread nD τ) (st3_5 t) fullShare ((dat W c).before 5 t d)))
      ⊢ wp frame (wpE (defs₀ (F := F)) Variants.none c none) Set.univ (bodyAt3 t) (fun _ =>
        iprop((dat W c).Φ t.succ ∗ (dat W c).owesAt () t.succ
          ∗ owns (c : Thread nD τ) (st3_0 t) fullShare ((dat W c).after 0 t)
          ∗ owns (c : Thread nD τ) (st3_1 t) fullShare ((dat W c).after 1 t)
          ∗ owns (c : Thread nD τ) (st3_2 t) fullShare ((dat W c).after 2 t)
          ∗ owns (c : Thread nD τ) (st3_3 t) fullShare ((dat W c).after 3 t)
          ∗ owns (c : Thread nD τ) (st3_4 t) fullShare ((dat W c).after 4 t)
          ∗ owns (c : Thread nD τ) (st3_5 t) fullShare ((dat W c).after 5 t))) := by
  unfold bodyAt3
  simp only [before_0, before_1, before_2, before_3, before_4]
  rw [show (dat W c).Φ t.succ = (dat W c).Φ t.castSucc from rfl,
    show (dat W c).owesAt () t.succ = (dat W c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (kernel_run c Set.univ _ _ _ _ _ _ _ _ _ _ _ _ (iblk W c 0 t) (iblk W c 1 t) (iblk W c 2 t) (iblk W c 3 t) (iblk W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body there. -/
theorem defs₀_row (t : Fin cfg3.N) :
    defs₀ (F := F) .tc cfg3.body (cfg3.bodyArgs t (cfg3.slots t)) = bodyAt3 t := by
  unfold defs₀; rw [Defs.onTc_tc]

/-- The pipeline's obligation at every point. -/
theorem body_obligation (c : Dev nD) : BodyObligation (dat (F := F) W c) (defs₀ (F := F)) Variants.none () Set.univ := fun t => by
  rw [bigSep_W3, bigSep_W3, defs₀_row]
  exact triple_restated (sound_body W c t) rfl .rfl fun _ => .rfl

/-- The scoped buffers at anything are the invariant before the first point, -/
theorem enter (c : Dev nD) : (Pipeline.scopedRest spec3 c : sProp 𝕄) ⊢ (dat W c).Φ 0 := by
  dsimp only [dat]; exact .rfl

/-- and after the last. -/
theorem leave (c : Dev nD) : (dat W c).Φ (Fin.last cfg3.N) ⊢ (Pipeline.scopedRest spec3 c : sProp 𝕄) := by
  dsimp only [dat]; exact .rfl

end Cert.KernelIdeal.OutProj

end
-- ==== Proof.Run.lean ====
/-
  The run of the idealised kernel, for any float values: the contents of memory between the calls, the four calls' segment
  records, and the theorem that every execution ends, with every counter at zero and every buffer that outlives a call at
  the contents named here.
-/
module

public import proofs.«01_k».proof.Proof.ProjRegion
public import proofs.«01_k».proof.Proof.KeyRegion
public import proofs.«01_k».proof.Proof.AttnRegion
public import proofs.«01_k».proof.Proof.OutRegion

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg afterRegion Seg)

variable {F : FTy → Type} [FloatOps F]

local notation "𝕄" => MT nD τ sig Unit (Elt F) ℕ (UR sig nD τ) ℕ

variable (m : (ℓ : Loc nD τ sig) → Buf (Elt F) ℓ)

/-! ## Memory between the calls -/

/-- Memory as the projection call finds it: the host's reshapes done; -/
def W1 : Entry F := V1 m
/-- as the key call finds it; -/
def W2 : Entry F := fun c => afterRegion (Proj.dat (W1 m) c) (W1 m c)
/-- as the attention call finds it; -/
def W3 : Entry F := fun c => afterRegion (KeyProj.dat (W2 m) c) (W2 m c)
/-- as the output call finds it; -/
def W4 : Entry F := fun c => afterRegion (Attn.dat (W3 m) c) (W3 m c)
/-- and at the end. -/
def W5 : Entry F := fun c => afterRegion (OutProj.dat (W4 m) c) (W4 m c)

/-- The four calls' proof data, each from memory as the call finds it. -/
def pdats : (p : Fin 4) → (c : Dev nD) → Dat τ (Elt F) Unit ℕ (UR sig nD τ) ℕ (cfgs p) c
  | ⟨0, _⟩, c => Proj.dat (W1 m) c
  | ⟨1, _⟩, c => KeyProj.dat (W2 m) c
  | ⟨2, _⟩, c => Attn.dat (W3 m) c
  | ⟨3, _⟩, c => OutProj.dat (W4 m) c

theorem W2_eq (c : Dev nD) : W2 m c = afterRegion (pdats m 0 c) (W1 m c) := rfl
theorem W3_eq (c : Dev nD) : W3 m c = afterRegion (pdats m 1 c) (W2 m c) := rfl
theorem W4_eq (c : Dev nD) : W4 m c = afterRegion (pdats m 2 c) (W3 m c) := rfl
theorem W5_eq (c : Dev nD) : W5 m c = afterRegion (pdats m 3 c) (W4 m c) := rfl

/-- One level on the TensorCore's counters, none elsewhere; -/
def L : GSem nD τ sig → Finset Unit := fun g => if g.1.2 = .tc then {()} else ∅
/-- the level is zero. -/
abbrev lv : GSem nD τ sig → Unit → ℕ := fun _ _ => 0
/-- Nothing is owed. -/
abbrev D : Dev nD → CellTallies nD τ sig Unit := fun _ => 0

theorem cut (p : Fin 4) : Pipeline.LevelCut (pcfgs (F := F)) adm () L lv p D (fun _ => 0) where
  hι c w s := by unfold L; rw [if_pos rfl]; exact Finset.mem_singleton.mpr rfl
  hιb c w s := Nat.le_refl 0
  hD c g i h := absurd h (Nat.lt_irrefl 0)

/-- What rides beside the buffers from call to call: that the core owes nothing. -/
def E (_ : Fin 5) (c : Dev nD) : sProp 𝕄 :=
  iprop((∃ Wd, owes (c : Thread nD τ) (D c) Wd) ∗ emp ∗ emp)

/-! ## The four records -/

theorem drop_emp (P Q : sProp 𝕄) (h : P ⊢ Q) : iprop(P ∗ emp) ⊢ Q := by
  iintro ⟨H, -⟩; iapply h; iexact H

theorem add_emp (P Q : sProp 𝕄) (h : P ⊢ Q) : P ⊢ iprop(Q ∗ emp) := by
  iintro H; isplitl; · iapply h; iexact H
  iempintro

/-- The projection call's record, -/
def R0 : RegionSeg (pcfgs (F := F)) adm (pdats m) () defs₀ Variants.none L lv 0 :=
  RegionSeg.ofHeldIn (pcfgs (F := F)) adm (pdats m) () defs₀ Variants.none L lv 0 D (Pipeline.ucRefs τ sig) (fun _ => iprop(emp)) (fun _ => iprop(emp))
    launch0.toP rfl (fun c => (Proj.body_obligation (W1 m) c).loose) (fun _ _ => rfl) (fun _ => rfl)
    (fun c w => by unfold Pipeline.Dat.share; split <;> rfl)
    (fun c => drop_emp _ _ (Proj.enter (W1 m) c)) (fun c => add_emp _ _ (Proj.leave (W1 m) c)) (fun _ => 0) (cut 0) (fun _ => iprop(emp)) (W1 m)
    (fun c w => Proj.A_eq (W1 m) c w)
/-- the key call's, -/
def R1 : RegionSeg (pcfgs (F := F)) adm (pdats m) () defs₀ Variants.none L lv 1 :=
  RegionSeg.ofHeldIn (pcfgs (F := F)) adm (pdats m) () defs₀ Variants.none L lv 1 D (Pipeline.ucRefs τ sig) (fun _ => iprop(emp)) (fun _ => iprop(emp))
    launch1.toP rfl (fun c => (KeyProj.body_obligation (W2 m) c).loose) (fun _ _ => rfl) (fun _ => rfl)
    (fun c w => by unfold Pipeline.Dat.share; split <;> rfl)
    (fun c => drop_emp _ _ (KeyProj.enter (W2 m) c)) (fun c => add_emp _ _ (KeyProj.leave (W2 m) c)) (fun _ => 0) (cut 1) (fun _ => iprop(emp)) (W2 m)
    (fun c w => KeyProj.A_eq (W2 m) c w)
/-- the attention call's, -/
def R2 : RegionSeg (pcfgs (F := F)) adm (pdats m) () defs₀ Variants.none L lv 2 :=
  RegionSeg.ofHeldIn (pcfgs (F := F)) adm (pdats m) () defs₀ Variants.none L lv 2 D (Pipeline.ucRefs τ sig) (fun _ => iprop(emp)) (fun _ => iprop(emp))
    launch2.toP rfl (fun c => (Attn.body_obligation (W3 m) c).loose) (fun _ _ => rfl) (fun _ => rfl)
    (fun c w => by unfold Pipeline.Dat.share; split <;> rfl)
    (fun c => drop_emp _ _ (Attn.enter (W3 m) c)) (fun c => add_emp _ _ (Attn.leave (W3 m) c)) (fun _ => 0) (cut 2) (fun _ => iprop(emp)) (W3 m)
    (fun c w => Attn.A_eq (W3 m) c w)
/-- the output call's. -/
def R3 : RegionSeg (pcfgs (F := F)) adm (pdats m) () defs₀ Variants.none L lv 3 :=
  RegionSeg.ofHeldIn (pcfgs (F := F)) adm (pdats m) () defs₀ Variants.none L lv 3 D (Pipeline.ucRefs τ sig) (fun _ => iprop(emp)) (fun _ => iprop(emp))
    launch3.toP rfl (fun c => (OutProj.body_obligation (W4 m) c).loose) (fun _ _ => rfl) (fun _ => rfl)
    (fun c w => by unfold Pipeline.Dat.share; split <;> rfl)
    (fun c => drop_emp _ _ (OutProj.enter (W4 m) c)) (fun c => add_emp _ _ (OutProj.leave (W4 m) c)) (fun _ => 0) (cut 3) (fun _ => iprop(emp)) (W4 m)
    (fun c w => OutProj.A_eq (W4 m) c w)

/-- Every buffer an array lives in outlives the calls. -/
theorem arrs_sub : (p : Fin 4) → Pipeline.arrRefs (pcfgs (F := F) p).spec ⊆ Pipeline.ucRefs τ sig
  | ⟨0, _⟩ => Pipeline.arrRefs_sub_ucRefs spec0 (by decide)
  | ⟨1, _⟩ => Pipeline.arrRefs_sub_ucRefs spec1 (by decide)
  | ⟨2, _⟩ => Pipeline.arrRefs_sub_ucRefs spec2 (by decide)
  | ⟨3, _⟩ => Pipeline.arrRefs_sub_ucRefs spec3 (by decide)

theorem pre0 (c : Dev nD) : iprop(StableHlo.held (c : Thread nD τ) (Pipeline.ucRefs τ sig) (W1 m c) ∗ E 1 c) ⊢ (R0 m).pre c :=
  by unfold E R0; exact RegionSeg.ofHeldIn_pre (a := adm) (pdats := pdats m) (ι := ()) (defs₀ := defs₀) (𝒱₀ := Variants.none) (L := L) (lv := lv) (D := D) (X := fun _ => iprop(emp)) (Y := fun _ => iprop(emp)) (R := fun _ => iprop(emp)) (W := W1 m) (arrs_sub (F := F) 0) c
theorem post0 (c : Dev nD) : (R0 m).post c ⊢ iprop(StableHlo.held (c : Thread nD τ) (Pipeline.ucRefs τ sig) (W2 m c) ∗ E 1 c) :=
  by unfold E R0; rw [W2_eq]; exact RegionSeg.ofHeldIn_post (a := adm) (pdats := pdats m) (ι := ()) (defs₀ := defs₀) (𝒱₀ := Variants.none) (L := L) (lv := lv) (D := D) (X := fun _ => iprop(emp)) (Y := fun _ => iprop(emp)) (R := fun _ => iprop(emp)) (W := W1 m) (arrs_sub (F := F) 0) c
theorem pre1 (c : Dev nD) : iprop(StableHlo.held (c : Thread nD τ) (Pipeline.ucRefs τ sig) (W2 m c) ∗ E 1 c) ⊢ (R1 m).pre c :=
  by unfold E R1; exact RegionSeg.ofHeldIn_pre (a := adm) (pdats := pdats m) (ι := ()) (defs₀ := defs₀) (𝒱₀ := Variants.none) (L := L) (lv := lv) (D := D) (X := fun _ => iprop(emp)) (Y := fun _ => iprop(emp)) (R := fun _ => iprop(emp)) (W := W2 m) (arrs_sub (F := F) 1) c
theorem post1 (c : Dev nD) : (R1 m).post c ⊢ iprop(StableHlo.held (c : Thread nD τ) (Pipeline.ucRefs τ sig) (W3 m c) ∗ E 1 c) :=
  by unfold E R1; rw [W3_eq]; exact RegionSeg.ofHeldIn_post (a := adm) (pdats := pdats m) (ι := ()) (defs₀ := defs₀) (𝒱₀ := Variants.none) (L := L) (lv := lv) (D := D) (X := fun _ => iprop(emp)) (Y := fun _ => iprop(emp)) (R := fun _ => iprop(emp)) (W := W2 m) (arrs_sub (F := F) 1) c
theorem pre2 (c : Dev nD) : iprop(StableHlo.held (c : Thread nD τ) (Pipeline.ucRefs τ sig) (W3 m c) ∗ E 1 c) ⊢ (R2 m).pre c :=
  by unfold E R2; exact RegionSeg.ofHeldIn_pre (a := adm) (pdats := pdats m) (ι := ()) (defs₀ := defs₀) (𝒱₀ := Variants.none) (L := L) (lv := lv) (D := D) (X := fun _ => iprop(emp)) (Y := fun _ => iprop(emp)) (R := fun _ => iprop(emp)) (W := W3 m) (arrs_sub (F := F) 2) c
theorem post2 (c : Dev nD) : (R2 m).post c ⊢ iprop(StableHlo.held (c : Thread nD τ) (Pipeline.ucRefs τ sig) (W4 m c) ∗ E 1 c) :=
  by unfold E R2; rw [W4_eq]; exact RegionSeg.ofHeldIn_post (a := adm) (pdats := pdats m) (ι := ()) (defs₀ := defs₀) (𝒱₀ := Variants.none) (L := L) (lv := lv) (D := D) (X := fun _ => iprop(emp)) (Y := fun _ => iprop(emp)) (R := fun _ => iprop(emp)) (W := W3 m) (arrs_sub (F := F) 2) c
theorem pre3 (c : Dev nD) : iprop(StableHlo.held (c : Thread nD τ) (Pipeline.ucRefs τ sig) (W4 m c) ∗ E 1 c) ⊢ (R3 m).pre c :=
  by unfold E R3; exact RegionSeg.ofHeldIn_pre (a := adm) (pdats := pdats m) (ι := ()) (defs₀ := defs₀) (𝒱₀ := Variants.none) (L := L) (lv := lv) (D := D) (X := fun _ => iprop(emp)) (Y := fun _ => iprop(emp)) (R := fun _ => iprop(emp)) (W := W4 m) (arrs_sub (F := F) 3) c
theorem post3 (c : Dev nD) : (R3 m).post c ⊢ iprop(StableHlo.held (c : Thread nD τ) (Pipeline.ucRefs τ sig) (W5 m c) ∗ E 1 c) :=
  by unfold E R3; rw [W5_eq]; exact RegionSeg.ofHeldIn_post (a := adm) (pdats := pdats m) (ι := ()) (defs₀ := defs₀) (𝒱₀ := Variants.none) (L := L) (lv := lv) (D := D) (X := fun _ => iprop(emp)) (Y := fun _ => iprop(emp)) (R := fun _ => iprop(emp)) (W := W4 m) (arrs_sub (F := F) 3) c

/-! ## The run -/

theorem owing (c : Dev nD) : E (F := F) 1 c ⊢ (iprop(∃ Wd, owes (c : Thread nD τ) (0 : CellTallies nD τ sig Unit) Wd) : sProp 𝕄) := by
  unfold E
  iintro ⟨H, -, -⟩; iexact H

-- the launch theorem's implicit arguments are found by unifying its conclusion with this one
set_option backward.isDefEq.respectTransparency.types false in
/-- Every execution from memory `m` with the counters at zero ends, every counter at zero and every buffer that outlives the
    calls at `W5`. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj emb₁ defs₀ Variants.none L lv m ρ main
    (segs m Variants.none L lv E () (pdats m) (R0 m) (R1 m) (R2 m) (R3 m))
    (fun c Q => by
      rewrite [main_chain c, Seg.run_eq_chain,
        show (segs m Variants.none L lv E () (pdats m) (R0 m) (R1 m) (R2 m) (R3 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [segs, Seg.pipes_host, Seg.pipes_region, Seg.pipes_nil]; decide) D
    (fun g hg => if_neg hg) (fun _ => iprop(emp)) (initOf (Pipeline.cells cfgs cellOf_inj) (Pipeline.launchToks cfgs cellOf_inj)) ?hu
    (T₀ := fun c => iprop(StableHlo.held (c : Thread nD τ) (Pipeline.ucRefs τ sig) (V0 m c) ∗ E 0 c))
    (Tₙ := fun c => StableHlo.held (c : Thread nD τ) (Pipeline.ucRefs τ sig) (W5 m c))
    (hch := fun c => ⟨.rfl, pre0 m c, (post0 m c).trans (pre1 m c), (post1 m c).trans (pre2 m c), (post2 m c).trans (pre3 m c), (post3 m c).trans (sep_mono .rfl (owing c))⟩)
    (hinit := ?_) (QY := fun c s => ∀ b ∈ Pipeline.ucRefs τ sig, s.mem (c, b) = W5 m c b)
    (hfin := fun c s' => ?_) (hQ := fun _ h hz => ⟨h, funext fun g => hz g (.inr (regions_no_unscoped g.2))⟩)
  case hu =>
    iintro Hu; imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = (StableHlo.held (c.tc : Thread nD τ) (Pipeline.ucRefs τ sig) (V0 m c) : sProp 𝕄)
      from Pipeline.unscopedBufs_held (Ix := Unit) (Name := ℕ) (U := UR sig nD τ) (Lvl := ℕ) c (V0 m c)]
    unfold E
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    iexact HSI

end Cert.KernelIdeal.Run

end
-- ==== Proof.Frame.lean ====
/-
  The arguments end as they began: no host operation and no call of the idealised kernel writes an argument's buffer.
-/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- A buffer that no host operation writes and no call writes back ends as launched. -/
theorem kept (c : Dev nD) (r : Ref sig .tc) (h : r ∉ hostOps0_W)
    (h0 : ∀ w, Pipeline.arrRef spec0 w = r → (cfg0.win w).isOut = false)
    (h1 : ∀ w, Pipeline.arrRef spec1 w = r → (cfg1.win w).isOut = false)
    (h2 : ∀ w, Pipeline.arrRef spec2 w = r → (cfg2.win w).isOut = false)
    (h3 : ∀ w, Pipeline.arrRef spec3 w = r → (cfg3.win w).isOut = false) :
    W5 m c (Proc.devRef .tc r) = m ((c.tc : Thread nD τ).loc r) :=
  (Pipeline.afterRegion_keeps (OutProj.dat (W4 m) c) _ launch3.win.arr_inj (OutProj.A_eq (W4 m) c) r h3).trans <|
    (Pipeline.afterRegion_keeps (Attn.dat (W3 m) c) _ launch2.win.arr_inj (Attn.A_eq (W3 m) c) r h2).trans <|
    (Pipeline.afterRegion_keeps (KeyProj.dat (W2 m) c) _ launch1.win.arr_inj (KeyProj.A_eq (W2 m) c) r h1).trans <|
    (Pipeline.afterRegion_keeps (Proj.dat (W1 m) c) _ launch0.win.arr_inj (Proj.A_eq (W1 m) c) r h0).trans <|
    (V1_of m c r h).trans rfl

/-- A TensorCore buffer that is not scoped outlives the calls. -/
theorem outlives (r : Ref sig .tc) (h : (Proc.devRef (τ := τ) .tc r).isScoped = false) : (Proc.devRef .tc r : DevRef τ sig) ∈ Pipeline.ucRefs τ sig :=
  Finset.mem_filter.mpr ⟨StableHlo.devRef_mem_tcRefs r, fun h' => Bool.false_ne_true (h.symm.trans h')⟩

/-- What every final state holds in a buffer that outlives the calls. -/
theorem ends {r : PUnit × MemSt nD τ sig (Elt F)} (h : ∀ c : Dev nD, ∀ b ∈ Pipeline.ucRefs τ sig, r.2.mem (c, b) = W5 m c b)
    (c : Dev nD) (b : Ref sig .tc) (hb : (Proc.devRef (τ := τ) .tc b).isScoped = false) :
    r.2.mem ((c.tc : Thread nD τ).loc b) = W5 m c (Proc.devRef .tc b) := h c _ (outlives b hb)

/-- The arguments. -/
def args : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18]

/-- Every argument ends as launched. -/
theorem arg_ends {r : PUnit × MemSt nD τ sig (Elt F)} (h : ∀ c : Dev nD, ∀ b ∈ Pipeline.ucRefs τ sig, r.2.mem (c, b) = W5 m c b)
    (c : Dev nD) (b : Ref sig .tc) (hb : b ∈ args) : r.2.mem ((c.tc : Thread nD τ).loc b) = m ((c.tc : Thread nD τ).loc b) :=
  (ends m h c b ((by decide : ∀ b ∈ args, (Proc.devRef (τ := τ) .tc b).isScoped = false) b hb)).trans <|
    kept m c b ((by decide : ∀ b ∈ args, b ∉ hostOps0_W) b hb)
      ((by decide : ∀ b ∈ args, ∀ w, Pipeline.arrRef spec0 w = b → (cfg0.win w).isOut = false) b hb)
      ((by decide : ∀ b ∈ args, ∀ w, Pipeline.arrRef spec1 w = b → (cfg1.win w).isOut = false) b hb)
      ((by decide : ∀ b ∈ args, ∀ w, Pipeline.arrRef spec2 w = b → (cfg2.win w).isOut = false) b hb)
      ((by decide : ∀ b ∈ args, ∀ w, Pipeline.arrRef spec3 w = b → (cfg3.win w).isOut = false) b hb)

end Cert.KernelIdeal.Run

end
-- ==== Proof.BitsBase.lean ====
/-
  What the modules on the kernel as printed's four calls share: their imports and the type of the memory a call finds.
-/
module

public import proofs.«01_k».proof.Proof.Gen.Kernel.Regions
public import proofs.«01_k».proof.Proof.Gen.Kernel.Points
public import proofs.«01_k».proof.Proof.Gen.Kernel.Skeleton
public import Idealize.ShloMosaic.Lib.Pipeline.FrameBody
public import Idealize.ShloMosaic.Lib.Pipeline.RegionArraysS
public import Idealize.ShloMosaic.Lib.Exec
public import Idealize.ShloMosaic.Lib.Tactic
public import Idealize.ShloMosaic.Lib.WordCmp
public import Idealize.ShloMosaic.Lib.Pipeline.Value

@[expose] public section

namespace Cert.Kernel

open Idealize.ShloMosaic

/-- The memory each core finds when a call is entered. -/
abbrev Entry (F : FTy → Type) := Dev nD → Valuation τ sig (Elt F)

end Cert.Kernel
-- ==== Proof.TopK.lean ====
/-
  The k greatest entries of a column, over the extended reals: the place of each position in the order "greater score first, equal
  scores by lower position", that a stable descending sort lists the positions in that order, and that taking the first position
  of the greatest entry and overwriting it with the least extended real walks the same order one place at a time.
-/
module

public import Idealize.ShloMosaic.Lib.PlanTiles.StableSort
public import Idealize.ShloMosaic.PureOps.Ideal.Laws

@[expose] public section

noncomputable section

namespace Cert.Pool

open Idealize.ShloMosaic
open scoped Classical

variable {n : ℕ}

/-- Position `s` stands before `t`: its score is greater, or equal and `s` is the lower position. -/
def Before (f : Fin n → EReal) (s t : Fin n) : Prop := f t < f s ∨ (f s = f t ∧ s < t)

/-- The number of positions that stand before `s`. -/
def rank (f : Fin n → EReal) (s : Fin n) : ℕ := (Finset.univ.filter fun t => Before f t s).card

variable (f : Fin n → EReal)

theorem Before.trans {f : Fin n → EReal} {a b c : Fin n} (h : Before f a b) (h' : Before f b c) : Before f a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem not_before_self (s : Fin n) : ¬ Before f s s := by
  rintro (h | ⟨-, h⟩) <;> exact lt_irrefl _ h

theorem before_or {s t : Fin n} (h : s ≠ t) : Before f s t ∨ Before f t s := by
  rcases lt_trichotomy (f s) (f t) with e | e | e
  · exact Or.inr (Or.inl e)
  · rcases lt_or_gt_of_ne h with l | l
    · exact Or.inl (Or.inr ⟨e, l⟩)
    · exact Or.inr (Or.inr ⟨e.symm, l⟩)
  · exact Or.inl (Or.inl e)

/-- A position that stands before another has fewer positions before it. -/
theorem rank_lt {s t : Fin n} (h : Before f s t) : rank f s < rank f t := by
  refine Finset.card_lt_card ⟨fun a ha => ?_, fun hs => ?_⟩
  · exact Finset.mem_filter.mpr ⟨Finset.mem_univ _, ((Finset.mem_filter.mp ha).2).trans h⟩
  · exact not_before_self f s (Finset.mem_filter.mp (hs (Finset.mem_filter.mpr ⟨Finset.mem_univ _, h⟩))).2

theorem rank_inj {s t : Fin n} (h : rank f s = rank f t) : s = t := by
  by_contra hne
  rcases before_or f hne with b | b
  · exact absurd h (rank_lt f b).ne
  · exact absurd h (rank_lt f b).ne'

/-- The number of scores below a position's: the key by which a descending sort of the scores sorts. -/
def below (s : Fin n) : ℕ := (Finset.univ.filter fun t => f t < f s).card

theorem below_lt_iff (s t : Fin n) : below f s < below f t ↔ f s < f t := by
  constructor
  · intro h
    by_contra hle
    refine absurd h (not_lt.mpr (Finset.card_le_card fun a ha => ?_))
    exact Finset.mem_filter.mpr ⟨Finset.mem_univ _, (Finset.mem_filter.mp ha).2.trans_le (not_lt.mp hle)⟩
  · intro h
    refine Finset.card_lt_card ⟨fun a ha => ?_, fun hs => ?_⟩
    · exact Finset.mem_filter.mpr ⟨Finset.mem_univ _, ((Finset.mem_filter.mp ha).2).trans h⟩
    · exact lt_irrefl _ (Finset.mem_filter.mp (hs (Finset.mem_filter.mpr ⟨Finset.mem_univ _, h⟩))).2

/-- The stable sort by descending score puts at place `i` a position that stands before the one at any later place. -/
theorem sorted_before {i j : Fin n} (h : i < j) :
    Before f (sortedFrom (fun a b => decide (f b < f a)) i) (sortedFrom (fun a b => decide (f b < f a)) j) := by
  have e : (fun a b : Fin n => decide (f b < f a)) = fun a b => decide (below f b < below f a) := by
    funext a b; exact decide_eq_decide.mpr (below_lt_iff f b a).symm
  rw [e]
  have hp := PlanTiles.pairwise_stableSort_lex (below f) (· < ·) (List.finRange n) (List.pairwise_lt_finRange n)
  have hg := List.pairwise_iff_get.mp hp (i.cast (length_sortPositions n _).symm) (j.cast (length_sortPositions n _).symm) h
  rcases hg with hg | ⟨hg, hl⟩
  · exact Or.inl ((below_lt_iff f _ _).mp hg)
  · refine Or.inr ⟨le_antisymm (not_lt.mp fun hc => ?_) (not_lt.mp fun hc => ?_), hl⟩
    · exact absurd hg ((below_lt_iff f _ _).mpr hc).ne'
    · exact absurd hg ((below_lt_iff f _ _).mpr hc).ne

/-- So the position at place `k` of the stable descending sort has exactly `k` positions before it. -/
theorem rank_sorted (k : Fin n) : rank f (sortedFrom (fun a b => decide (f b < f a)) k) = k.val := by
  set L := sortedFrom (fun a b : Fin n => decide (f b < f a)) with hL
  have hset : (Finset.univ.filter fun t => Before f t (L k)) = (Finset.Iio k).image L := by
    ext t
    obtain ⟨j, rfl⟩ := sortedFrom_surjective (fun a b : Fin n => decide (f b < f a)) t
    simp only [Finset.mem_filter, Finset.mem_univ, true_and, Finset.mem_image, Finset.mem_Iio]
    constructor
    · intro h
      refine ⟨j, ?_, rfl⟩
      by_contra hj
      rcases eq_or_lt_of_le (not_lt.mp hj) with e | l
      · subst e; exact not_before_self f _ h
      · exact not_before_self f _ (h.trans (sorted_before f l))
    · rintro ⟨i, hi, e⟩
      rw [← e]; exact sorted_before f hi
  unfold rank
  rw [hset, Finset.card_image_of_injective _ (sortedFrom_injective _), Fin.card_Iio]

/-- The column after `k` rounds: the first `k` positions of the order overwritten with the least extended real. -/
def masked (k : ℕ) (s : Fin n) : EReal := if rank f s < k then ⊥ else f s

theorem masked_zero : masked f 0 = f := by funext s; simp [masked]

theorem card_ranked (k : ℕ) : (Finset.univ.filter fun t => rank f t < k).card ≤ k := by
  have := Finset.card_le_card_of_injOn (s := Finset.univ.filter fun t => rank f t < k) (t := Finset.range k) (rank f)
    (fun a ha => by simpa using ha) (fun a _ b _ h => rank_inj f h)
  simpa using this

/-- The first position of the greatest entry of the column after `k` rounds is the one with `k` positions before it. -/
theorem rank_pick (hf : ∀ s, f s ≠ ⊥) {k : ℕ} (hk : k < n) {s : Fin n} {m : EReal} (hm : ∀ t, masked f k t ≤ m)
    (hs : m ≤ masked f k s) (hl : ∀ t, m ≤ masked f k t → s ≤ t) : rank f s = k := by
  have hex : ∃ t, ¬ rank f t < k := by
    by_contra hc
    push Not at hc
    have h1 := card_ranked f k
    rw [Finset.filter_true_of_mem (fun t _ => hc t), Finset.card_univ, Fintype.card_fin] at h1
    omega
  obtain ⟨t₀, ht₀⟩ := hex
  have hms : ¬ rank f s < k := fun h => by
    have h1 : masked f k s = ⊥ := if_pos h
    have h2 : masked f k t₀ = f t₀ := if_neg ht₀
    have h3 := hm t₀
    rw [h2] at h3
    rw [h1] at hs
    exact hf t₀ (le_bot_iff.mp (h3.trans hs))
  have hfs : masked f k s = f s := if_neg hms
  refine le_antisymm ?_ (not_lt.mp hms)
  refine (Finset.card_le_card fun a ha => ?_).trans (card_ranked f k)
  refine Finset.mem_filter.mpr ⟨Finset.mem_univ _, ?_⟩
  by_contra hn
  have hfa : masked f k a = f a := if_neg hn
  rcases (Finset.mem_filter.mp ha).2 with h | ⟨h, hlt⟩
  · have h1 := (hm a).trans hs
    rw [hfa, hfs] at h1
    exact absurd h (not_lt.mpr h1)
  · have h1 := hl a (by rw [hfa, h, ← hfs]; exact hs)
    exact absurd hlt (not_lt.mpr h1)

/-- Overwriting the position with `k` positions before it gives the column after one more round. -/
theorem masked_succ {k : ℕ} {s : Fin n} (hs : rank f s = k) (t : Fin n) :
    (if t = s then ⊥ else masked f k t) = masked f (k + 1) t := by
  unfold masked
  by_cases h : t = s
  · subst h; rw [if_pos rfl, if_pos (by omega)]
  · have hne : rank f t ≠ k := fun e => h (rank_inj f (e.trans hs.symm))
    rw [if_neg h]
    by_cases h2 : rank f t < k
    · rw [if_pos h2, if_pos (by omega)]
    · rw [if_neg h2, if_neg (by omega)]

/-! ## The first position as a minimum of 32-bit words -/

/-- A fold of the signed minimum is at most every entry and the start, and is one of them. -/
theorem fold_minsi {ι : Type} (init : BitVec 32) (g : ι → BitVec 32) (S : Finset ι) :
    (∀ i ∈ S, (S.fold IntOp.minsi init g).toInt ≤ (g i).toInt)
      ∧ (S.fold IntOp.minsi init g = init ∨ ∃ i ∈ S, S.fold IntOp.minsi init g = g i) := by
  induction S using Finset.induction_on with
  | empty => exact ⟨fun i hi => absurd hi (Finset.notMem_empty i), Or.inl rfl⟩
  | insert a S ha ih =>
    rw [Finset.fold_insert ha]
    obtain ⟨ih1, ih2⟩ := ih
    have hmin : ∀ x y : BitVec 32, IntOp.minsi x y = x ∧ x.toInt ≤ y.toInt ∨ IntOp.minsi x y = y ∧ y.toInt ≤ x.toInt := by
      intro x y
      unfold IntOp.minsi
      split
      · rename_i h; simp only [BitVec.slt, BitVec.sle, decide_eq_true_eq] at h; exact Or.inl ⟨rfl, by omega⟩
      · rename_i h; simp only [BitVec.slt, BitVec.sle, decide_eq_true_eq] at h; exact Or.inr ⟨rfl, by omega⟩
    rcases hmin (g a) (S.fold IntOp.minsi init g) with ⟨e, l⟩ | ⟨e, l⟩ <;> rw [e]
    · refine ⟨fun i hi => ?_, Or.inr ⟨a, Finset.mem_insert_self _ _, rfl⟩⟩
      rcases Finset.mem_insert.mp hi with rfl | hi
      · exact le_rfl
      · exact l.trans (ih1 i hi)
    · refine ⟨fun i hi => ?_, ?_⟩
      · rcases Finset.mem_insert.mp hi with rfl | hi
        · exact l
        · exact ih1 i hi
      · rcases ih2 with h | ⟨i, hi, h⟩
        · exact Or.inl h
        · exact Or.inr ⟨i, Finset.mem_insert_of_mem hi, h⟩

theorem le_fold_max {ι : Type} [Fintype ι] (v : ι → EReal) (i : ι) : v i ≤ Finset.univ.fold max ⊥ v :=
  (Finset.fold_max_le (c := Finset.univ.fold max ⊥ v)).mp le_rfl |>.2 i (Finset.mem_univ _)

/-- A column of 4096 extended reals has a greatest entry, and its fold of the maximum is that entry. -/
theorem fold_max_attained (v : Fin 4096 → EReal) : ∃ s, Finset.univ.fold max ⊥ v ≤ v s := by
  obtain ⟨s, -, hs⟩ := Finset.exists_max_image Finset.univ v ⟨0, Finset.mem_univ _⟩
  exact ⟨s, (Finset.fold_max_le _).mpr ⟨bot_le, fun t ht => hs t ht⟩⟩

theorem ofNat_toInt {k : ℕ} (h : k ≤ 4096) : (BitVec.ofNat 32 k).toInt = k := by
  rw [BitVec.toInt_eq_toNat_of_lt] <;> rw [BitVec.toNat_ofNat] <;> omega

/-- The minimum, over a column of 4096 entries, of the positions whose entry is at least the greatest one is the first position of
    the greatest entry. -/
theorem first_of_max (v : Fin 4096 → EReal) :
    ∃ s : Fin 4096, Finset.univ.fold IntOp.minsi 2147483647#32
        (fun t : Fin 4096 => if Finset.univ.fold max ⊥ v ≤ v t then BitVec.ofNat 32 t.val else 4096#32) = BitVec.ofNat 32 s.val
      ∧ Finset.univ.fold max ⊥ v ≤ v s ∧ ∀ t, Finset.univ.fold max ⊥ v ≤ v t → s ≤ t := by
  set m := Finset.univ.fold max ⊥ v with hm
  obtain ⟨s₀, h₀⟩ := fold_max_attained v
  obtain ⟨hle, hone⟩ := fold_minsi 2147483647#32 (fun t : Fin 4096 => if m ≤ v t then BitVec.ofNat 32 t.val else 4096#32) Finset.univ
  set r := Finset.univ.fold IntOp.minsi 2147483647#32 (fun t : Fin 4096 => if m ≤ v t then BitVec.ofNat 32 t.val else 4096#32) with hr
  have hr0 : r.toInt ≤ s₀.val := by
    have := hle s₀ (Finset.mem_univ _)
    rw [if_pos h₀, ofNat_toInt (by omega)] at this
    exact this
  rcases hone with h | ⟨s, -, h⟩
  · exfalso
    rw [h] at hr0
    have : (2147483647#32 : BitVec 32).toInt = 2147483647 := by decide
    omega
  · have hs : m ≤ v s := by
      by_contra hn
      rw [if_neg hn] at h
      rw [h] at hr0
      have : (4096#32 : BitVec 32).toInt = 4096 := by decide
      omega
    rw [if_pos hs] at h
    refine ⟨s, h, hs, fun t ht => ?_⟩
    have := hle t (Finset.mem_univ _)
    rw [if_pos ht, h, ofNat_toInt (by omega), ofNat_toInt (by omega)] at this
    exact Fin.le_def.mpr (by omega)

end Cert.Pool
-- ==== Proof.Norm.lean ====
/-
  The normalisation of a row and the softmax of a row, over the extended reals: the two spellings of each (a product with the
  reciprocal square root or a quotient by the square root; with the greatest entry taken off first or not) are one value, and what
  a normalised row's entries are when its gain and its shift are real.
-/
module

public import Idealize.ShloMosaic.PureOps.Ideal.Laws

@[expose] public section

noncomputable section

namespace Cert.Pool

open Idealize.ShloMosaic

/-- The value is a real number. -/
def IsReal (x : EReal) : Prop := ∃ r : ℝ, x = r

theorem isReal_coe (r : ℝ) : IsReal (r : EReal) := ⟨r, rfl⟩
theorem isReal_zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) {f : ι → EReal} (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self _ _)).add (ih fun i hi => h i (Finset.mem_insert_of_mem hi))
theorem IsReal.ne_bot {x : EReal} (h : IsReal x) : x ≠ ⊥ := by obtain ⟨r, rfl⟩ := h; exact EReal.coe_ne_bot r

/-! ## The constants -/

theorem bits_zero : Ideal.ofBits .f32 0x00000000#32 = 0 := by simp [Ideal.ofBits, Ideal.ieee]
theorem bits_1024 : Ideal.ofBits .f32 0x44800000#32 = ((1024 : ℝ) : EReal) := by
  simp [Ideal.ofBits, Ideal.ieee]; norm_num; rw [← EReal.coe_mul]; norm_num
theorem bits_8 : Ideal.ofBits .f32 0x41000000#32 = ((8 : ℝ) : EReal) := by
  simp [Ideal.ofBits, Ideal.ieee]; norm_num; rw [← EReal.coe_mul]; norm_num
theorem bits_eighth : Ideal.ofBits .f32 0x3E000000#32 = ((1 / 8 : ℝ) : EReal) := by
  simp [Ideal.ofBits, Ideal.ieee]; norm_num; rw [← EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The small number a variance is raised by. -/
def eps : EReal := Ideal.ofBits .f32 0x3727C5AC#32

theorem eps_pos : ∃ e : ℝ, 0 < e ∧ eps = e := by
  refine ⟨10995116 / 2 ^ 40, by norm_num, ?_⟩
  simp [eps, Ideal.ofBits, Ideal.ieee]; norm_num; rw [← EReal.coe_mul]; norm_num

theorem div_coe (x : EReal) {r : ℝ} (h : r ≠ 0) : Ideal.div x (r : EReal) = x * ((r⁻¹ : ℝ) : EReal) := by
  unfold Ideal.div
  rw [if_neg (by exact_mod_cast h), EReal.coe_inv]

/-- A quotient by eight is the product with an eighth. -/
theorem div_eight (x : EReal) : Ideal.div x ((8 : ℝ) : EReal) = x * ((1 / 8 : ℝ) : EReal) := by
  rw [div_coe x (by norm_num)]; norm_num

/-! ## Normalisation -/

/-- The mean of a row of 1024 entries. -/
def mean (p : Fin 1024 → EReal) : EReal := Ideal.div (∑ k, p k) ((1024 : ℝ) : EReal)
/-- The mean of the squares of a row's distances from its mean. -/
def variance (p : Fin 1024 → EReal) : EReal :=
  Ideal.div (∑ k, (p k - mean p) * (p k - mean p)) ((1024 : ℝ) : EReal)
/-- The row normalised, with gain `g` and shift `b`. -/
def norm (p g b : Fin 1024 → EReal) (j : Fin 1024) : EReal :=
  (p j - mean p) * Ideal.rsqrt (variance p + eps) * g j + b j

theorem sq_nonneg' (x : EReal) : 0 ≤ x * x := by
  rcases le_total 0 x with h | h
  · exact mul_nonneg h h
  · have h1 : 0 ≤ -x := EReal.neg_nonneg.mpr h
    have h2 := mul_nonneg h1 h1
    rwa [EReal.neg_mul, mul_comm, EReal.neg_mul, neg_neg] at h2

theorem variance_nonneg (p : Fin 1024 → EReal) : 0 ≤ variance p := by
  unfold variance
  rw [div_coe _ (by norm_num)]
  exact mul_nonneg (Finset.sum_nonneg fun k _ => sq_nonneg' _) (EReal.coe_nonneg.mpr (by norm_num))

/-- The raised variance is a positive real number or infinite. -/
theorem raised_cases (p : Fin 1024 → EReal) : variance p + eps = ⊤ ∨ ∃ r : ℝ, 0 < r ∧ variance p + eps = r := by
  obtain ⟨e, he, hE⟩ := eps_pos
  have hv := variance_nonneg p
  rw [hE]
  induction hx : variance p with
  | bot => rw [hx] at hv; simp at hv
  | top => exact Or.inl (EReal.top_add_coe e)
  | coe r =>
    rw [hx] at hv
    exact Or.inr ⟨r + e, by have := EReal.coe_nonneg.mp hv; linarith, (EReal.coe_add r e).symm⟩

/-- The quotient by the square root of the raised variance is the product with its reciprocal square root. -/
theorem norm_eq_div (p g b : Fin 1024 → EReal) (j : Fin 1024) :
    Ideal.div (p j - mean p) (Ideal.sqrt (variance p + eps)) * g j + b j = norm p g b j := by
  unfold norm
  congr 2
  rcases raised_cases p with h | ⟨r, hr, h⟩ <;> rw [h]
  · simp [Ideal.div]
  · have hs : Real.sqrt r ≠ 0 := (Real.sqrt_pos.mpr hr).ne'
    rw [Ideal.sqrt_coe, Ideal.rsqrt_coe, if_neg (not_lt.mpr hr.le), if_neg (not_lt.mpr hr.le), if_neg hr.ne', div_coe _ hs]

theorem finite_of_mul_self_ne_top {x : EReal} (h : x * x ≠ ⊤) : IsReal x := by
  induction x with
  | bot => simp at h
  | top => simp at h
  | coe r => exact isReal_coe r

/-- A normalised row's entries are real where the gain and the shift are, whatever the row holds. -/
theorem norm_isReal (p g b : Fin 1024 → EReal) (j : Fin 1024) (hg : IsReal (g j)) (hb : IsReal (b j)) :
    IsReal (norm p g b j) := by
  unfold norm
  refine (IsReal.mul ?_ hg).add hb
  rcases raised_cases p with h | ⟨r, hr, h⟩ <;> rw [h]
  · rw [Ideal.rsqrt_top, mul_zero]; exact isReal_zero
  · have hv : variance p ≠ ⊤ := by
      intro ht
      obtain ⟨e, -, hE⟩ := eps_pos
      rw [ht, hE, EReal.top_add_coe] at h
      exact EReal.coe_ne_top r h.symm
    have hsum : ∑ k, (p k - mean p) * (p k - mean p) ≠ ⊤ := by
      intro ht
      apply hv
      unfold variance
      rw [ht, div_coe _ (by norm_num)]
      exact EReal.top_mul_coe_of_pos (by norm_num)
    have hj : IsReal (p j - mean p) := by
      apply finite_of_mul_self_ne_top
      intro ht
      apply hsum
      exact top_le_iff.mp (ht ▸ Finset.single_le_sum (f := fun k => (p k - mean p) * (p k - mean p))
        (fun k _ => sq_nonneg' _) (Finset.mem_univ j))
    refine hj.mul ?_
    rw [Ideal.rsqrt_coe, if_neg (not_lt.mpr hr.le), if_neg hr.ne']
    exact isReal_coe _

/-! ## Softmax -/

theorem exp_coe_sum {ι : Type} (s : Finset ι) (l : ι → ℝ) : ∑ i ∈ s, ((Real.exp (l i) : ℝ) : EReal) = ((∑ i ∈ s, Real.exp (l i) : ℝ) : EReal) := by
  classical
  induction s using Finset.induction_on with
  | empty => simp
  | insert a s ha ih => rw [Finset.sum_insert ha, Finset.sum_insert ha, ih, EReal.coe_add]

/-- The greatest entry of a row of real numbers, started from the least extended real, is real. -/
theorem fold_max_isReal (l : Fin 100 → EReal) (h : ∀ c, IsReal (l c)) : IsReal (Finset.univ.fold max ⊥ l) := by
  have h0 : l 0 ≤ Finset.univ.fold max ⊥ l :=
    ((Finset.fold_max_le (Finset.univ.fold max ⊥ l)).mp le_rfl).2 0 (Finset.mem_univ _)
  have h1 : Finset.univ.fold max ⊥ l < ⊤ := by
    refine (Finset.fold_max_lt ⊤).mpr ⟨bot_lt_top, fun c _ => ?_⟩
    obtain ⟨r, hr⟩ := h c
    rw [hr]; exact EReal.coe_lt_top r
  induction hx : Finset.univ.fold max ⊥ l with
  | bot => rw [hx] at h0; exact absurd (le_bot_iff.mp h0) (h 0).ne_bot
  | top => rw [hx] at h1; exact absurd h1 (lt_irrefl _)
  | coe r => exact isReal_coe r

/-- The softmax of a row of 100 entries, as it stands. -/
def soft (l : Fin 100 → EReal) (c : Fin 100) : EReal := Ideal.div (Ideal.exp (l c)) (∑ k, Ideal.exp (l k))

/-- Taking a real number off every entry of a row of real numbers leaves its softmax. -/
theorem soft_shift (l : Fin 100 → EReal) (h : ∀ c, IsReal (l c)) (M : EReal) (hM : IsReal M) (c : Fin 100) :
    Ideal.div (Ideal.exp (l c - M)) (∑ k, Ideal.exp (l k - M)) = soft l c := by
  choose r hr using h
  obtain ⟨m, rfl⟩ := hM
  unfold soft
  have e1 : ∀ k, Ideal.exp (l k) = ((Real.exp (r k) : ℝ) : EReal) := fun k => by rw [hr k, Ideal.exp_coe]
  have e2 : ∀ k, Ideal.exp (l k - (m : EReal)) = ((Real.exp (r k - m) : ℝ) : EReal) := fun k => by
    rw [hr k, ← EReal.coe_sub, Ideal.exp_coe]
  simp only [e1, e2]
  rw [exp_coe_sum, exp_coe_sum]
  have p1 : 0 < ∑ k, Real.exp (r k) := Finset.sum_pos (fun k _ => Real.exp_pos _) ⟨0, Finset.mem_univ _⟩
  have p2 : 0 < ∑ k, Real.exp (r k - m) := Finset.sum_pos (fun k _ => Real.exp_pos _) ⟨0, Finset.mem_univ _⟩
  rw [div_coe _ p1.ne', div_coe _ p2.ne', ← EReal.coe_mul, ← EReal.coe_mul]
  congr 1
  simp only [Real.exp_sub]
  rw [← Finset.sum_div]
  have := Real.exp_pos m
  field_simp

end Cert.Pool
-- ==== Proof.Spec.lean ====
/-
  The mathematics both programs compute, over the extended reals, as functions of the arguments' entries: a pooled attention block.
  Every row of the input gets a score per pooled slot; each slot takes the eight rows of greatest score, lays them end to end and
  projects and normalises them to a key; queries and values are projections of the rows, normalised; each head's logits, their
  softmax, the slot's average of the values, and a last projection, normalised.
-/
module

public import proofs.«01_k».proof.Proof.TopK
public import proofs.«01_k».proof.Proof.Norm

@[expose] public section

noncomputable section

namespace Cert.Pool

open Idealize.ShloMosaic

/-- Rows times a matrix, plus a row. -/
def affine {M K N : ℕ} (X : Fin M → Fin K → EReal) (W : Fin K → Fin N → EReal) (b : Fin N → EReal) (s : Fin M) (j : Fin N) : EReal :=
  ∑ k, X s k * W k j + b j

/-- The same, every row normalised. -/
def proj {M K : ℕ} (X : Fin M → Fin K → EReal) (W : Fin K → Fin 1024 → EReal) (b g bb : Fin 1024 → EReal) (s : Fin M) (j : Fin 1024) : EReal :=
  norm (affine X W b s) g bb j

/-- The position of the `k`-th greatest score, equal scores by lower position. -/
def place (f : Fin 4096 → EReal) (k : Fin 4096) : Fin 4096 := sortedFrom (fun a b => decide (f b < f a)) k

/-- Column `64 h + d` of a row of 1024: entry `d` of head `h`. -/
def headCol (h : Fin 16) (d : Fin 64) : Fin 1024 := ⟨64 * h.val + d.val, by omega⟩

/-- A slot's eight rows laid end to end. -/
def rowsOf (X : Fin 4096 → Fin 1024 → EReal) (p : Fin 100 → Fin 8 → Fin 4096) (c : Fin 100) (k : Fin 8192) : EReal :=
  X (p c ⟨k.val / 1024, by omega⟩) ⟨k.val % 1024, by omega⟩

/-- A head's logits: its queries against the slots' keys, over eight. -/
def logit (Q : Fin 4096 → Fin 1024 → EReal) (K : Fin 100 → Fin 1024 → EReal) (h : Fin 16) (s : Fin 4096) (c : Fin 100) : EReal :=
  (∑ d : Fin 64, Q s (headCol h d) * K c (headCol h d)) * ((1 / 8 : ℝ) : EReal)

/-- A slot's average of a head's values under the attention. -/
def pooled (A : Fin 16 → Fin 4096 → Fin 100 → EReal) (V : Fin 4096 → Fin 1024 → EReal) (c : Fin 100) (j : Fin 1024) : EReal :=
  ∑ s : Fin 4096, A ⟨j.val / 64, by omega⟩ s c * V s j

end Cert.Pool
-- ==== Proof.Block.lean ====
/-
  The block's results as functions of its nineteen arguments, and what finite arguments make of them: scores that are
  real numbers, and logits that are.
-/
module

public import proofs.«01_k».proof.Proof.Spec
public import Idealize.ShloMosaic.Lib.ValueIdx

@[expose] public section

noncomputable section

namespace Cert.Pool

open Idealize.ShloMosaic Idealize.ShloMosaic.ValueIdx

/-- The arguments' entries. -/
structure Params where
  x : Fin 4096 → Fin 1024 → EReal
  wIh : Fin 1024 → Fin 100 → EReal
  bIh : Fin 100 → EReal
  wK : Fin 8192 → Fin 1024 → EReal
  bK : Fin 1024 → EReal
  gK : Fin 1024 → EReal
  bbK : Fin 1024 → EReal
  wQ : Fin 1024 → Fin 1024 → EReal
  bQ : Fin 1024 → EReal
  gQ : Fin 1024 → EReal
  bbQ : Fin 1024 → EReal
  wV : Fin 1024 → Fin 1024 → EReal
  bV : Fin 1024 → EReal
  gV : Fin 1024 → EReal
  bbV : Fin 1024 → EReal
  wP : Fin 1024 → Fin 1024 → EReal
  bP : Fin 1024 → EReal
  gO : Fin 1024 → EReal
  bbO : Fin 1024 → EReal

/-- The entries of a matrix and of a vector. -/
def mat {a b : ℕ} (v : FVec Ideal ⟨2, ![a, b]⟩ .f32) (s : Fin a) (j : Fin b) : EReal := v (ix2 s j)
def vec {a : ℕ} (v : FVec Ideal ⟨1, ![a]⟩ .f32) (j : Fin a) : EReal := v (ix1 j)

/-- The entries of nineteen arrays. -/
def ofArrays (x0 : FVec Ideal ⟨2, ![4096, 1024]⟩ .f32) (x1 : FVec Ideal ⟨2, ![1024, 100]⟩ .f32) (x2 : FVec Ideal ⟨1, ![100]⟩ .f32)
    (x3 : FVec Ideal ⟨2, ![8192, 1024]⟩ .f32) (x4 x5 x6 : FVec Ideal ⟨1, ![1024]⟩ .f32) (x7 : FVec Ideal ⟨2, ![1024, 1024]⟩ .f32)
    (x8 x9 x10 : FVec Ideal ⟨1, ![1024]⟩ .f32) (x11 : FVec Ideal ⟨2, ![1024, 1024]⟩ .f32) (x12 x13 x14 : FVec Ideal ⟨1, ![1024]⟩ .f32)
    (x15 : FVec Ideal ⟨2, ![1024, 1024]⟩ .f32) (x16 x17 x18 : FVec Ideal ⟨1, ![1024]⟩ .f32) : Params :=
  ⟨mat x0, mat x1, vec x2, mat x3, vec x4, vec x5, vec x6, mat x7, vec x8, vec x9, vec x10, mat x11, vec x12, vec x13, vec x14,
    mat x15, vec x16, vec x17, vec x18⟩

namespace Params

variable (P : Params)

/-- The rows' scores for the slots (the second result). -/
def score : Fin 4096 → Fin 100 → EReal := affine P.x P.wIh P.bIh
/-- The place of slot `c`'s `k`-th greatest score (the fourth result). -/
def spot (c : Fin 100) (k : Fin 8) : Fin 4096 := place (fun s => P.score s c) (Fin.castLE (by decide) k)
/-- The slots' keys, the rows' queries and values. -/
def key : Fin 100 → Fin 1024 → EReal := proj (rowsOf P.x P.spot) P.wK P.bK P.gK P.bbK
def query : Fin 4096 → Fin 1024 → EReal := proj P.x P.wQ P.bQ P.gQ P.bbQ
def value : Fin 4096 → Fin 1024 → EReal := proj P.x P.wV P.bV P.gV P.bbV
/-- The attention of every head (the third result). -/
def attn (h : Fin 16) (s : Fin 4096) (c : Fin 100) : EReal := soft (logit P.query P.key h s) c
/-- The pooled rows, projected and normalised (the first result). -/
def out : Fin 100 → Fin 1024 → EReal := proj (pooled P.attn P.value) P.wP P.bP P.gO P.bbO

/-- What is asked of the arguments: the points, the scores' weights and the gains and shifts of queries and keys are real. -/
structure Finite : Prop where
  x : ∀ s k, IsReal (P.x s k)
  wIh : ∀ k c, IsReal (P.wIh k c)
  bIh : ∀ c, IsReal (P.bIh c)
  gQ : ∀ j, IsReal (P.gQ j)
  bbQ : ∀ j, IsReal (P.bbQ j)
  gK : ∀ j, IsReal (P.gK j)
  bbK : ∀ j, IsReal (P.bbK j)

variable {P}

/-- No score is −∞, -/
theorem score_ne_bot (h : P.Finite) (s : Fin 4096) (c : Fin 100) : P.score s c ≠ ⊥ :=
  ((IsReal.sum _ fun k _ => (h.x s k).mul (h.wIh k c)).add (h.bIh c)).ne_bot

/-- and every logit is real, whatever the projections' weights are. -/
theorem logit_isReal (h : P.Finite) (a : Fin 16) (s : Fin 4096) (c : Fin 100) : IsReal (logit P.query P.key a s c) :=
  (IsReal.sum _ fun d _ => (norm_isReal _ _ _ _ (h.gQ _) (h.bbQ _)).mul (norm_isReal _ _ _ _ (h.gK _) (h.bbK _))).mul (isReal_coe _)

end Params

end Cert.Pool
-- ==== Proof.Ops.lean ====
/-
  The vector operations of the bodies read at an index, over the extended reals: products of matrices, sums along rows, a column
  spread along rows, and the normalisation of every row of a matrix of 1024 columns.
-/
module

public import proofs.«01_k».proof.Proof.Norm
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.Pool

open Idealize.ShloMosaic Idealize.ShloMosaic.ValueIdx

/-- A column read along every row it is spread over. -/
theorem spread_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix's product with another from a zero start, read at an entry. -/
theorem dot_plain {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c)
      = ∑ k : Fin K, a (ix2 r k) * b (ix2 k c) := by
  refine (Ideal.matmul_plain_apply none a b _ r c).trans ?_
  rw [constant_apply, bits_zero, zero_add]

/-- The product with a transposed right side likewise. -/
theorem dot_trhs {M K N : ℕ} {φ₁ φ₂ : FTy} (a : FVec Ideal ⟨2, ![M, K]⟩ φ₁) (b : FVec Ideal ⟨2, ![N, K]⟩ φ₂) (r : Fin M) (c : Fin N) :
    matmul (DotDims.transposedRhs M K N) none a b (constant ⟨2, ![M, N]⟩ .f32 0x00000000#32) (ix2 r c)
      = ∑ k : Fin K, a (ix2 r k) * b (ix2 c k) := by
  refine (Ideal.matmul_transposedRhs_apply none a b _ r c).trans ?_
  rw [constant_apply, bits_zero, zero_add]

theorem formats32 : FKind.Formats .f32 := .inl rfl
theorem zero_neutral : (0x00000000#32 : BitVec 32) = FKind.add.neutral .f32 formats32 := rfl
theorem bot_neutral : (0xFF800000#32 : BitVec 32) = FKind.maximumf.neutral .f32 formats32 := rfl

/-- The sum along the rows of a matrix, read at a row. -/
theorem sum_rows {M N : ℕ} (x : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ) (r : Fin M) :
    multiReduction .add [1] ⟨1, ![M]⟩ x 0x00000000#32 h hφ hacc (ix1 r) = ∑ k : Fin N, x (ix2 r k) := by
  rw [Ideal.multiReduction_add_single]
  refine Finset.sum_congr rfl fun k _ => congrArg x ?_
  funext a
  apply Fin.ext
  match a with
  | ⟨0, _⟩ => rfl
  | ⟨1, _⟩ => rfl

/-- The normalisation of every row as the bodies spell it. -/
def normRows (m : ℕ) (p : FVec Ideal ⟨2, ![m, 1024]⟩ .f32) (g b : FVec Ideal ⟨2, ![1, 1024]⟩ .f32)
    (hr : Shape.Reduces ⟨2, ![m, 1024]⟩ [1] ⟨1, ![m]⟩) (hφ : FKind.Formats .f32)
    (hacc : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 1024]⟩)
    (hg : (⟨2, ![1, 1024]⟩ : Shape).Broadcasts ⟨2, ![m, 1024]⟩) : FVec Ideal ⟨2, ![m, 1024]⟩ .f32 :=
  have d : FVec Ideal ⟨2, ![m, 1024]⟩ .f32 :=
    subf p (broadcastTo _ (divf (shapeCast ⟨2, ![m, 1]⟩ (multiReduction .add [1] ⟨1, ![m]⟩ p 0x00000000#32 hr hφ hacc) hc)
      (broadcast ⟨2, ![m, 1]⟩ (Scalar.ofBits .f32 0x44800000#32))) hb)
  addf (mulf (mulf d (broadcastTo _ (rsqrt (addf (divf (shapeCast ⟨2, ![m, 1]⟩
      (multiReduction .add [1] ⟨1, ![m]⟩ (mulf d d) 0x00000000#32 hr hφ hacc) hc)
      (broadcast ⟨2, ![m, 1]⟩ (Scalar.ofBits .f32 0x44800000#32))) (broadcast ⟨2, ![m, 1]⟩ (Scalar.ofBits .f32 0x3727C5AC#32)))) hb))
    (broadcastTo _ g hg)) (broadcastTo _ b hg)

/-- It is each row's `norm`. -/
theorem normRows_apply (m : ℕ) (p : FVec Ideal ⟨2, ![m, 1024]⟩ .f32) (g b : FVec Ideal ⟨2, ![1, 1024]⟩ .f32)
    (hr : Shape.Reduces ⟨2, ![m, 1024]⟩ [1] ⟨1, ![m]⟩) (hφ : FKind.Formats .f32)
    (hacc : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 1024]⟩)
    (hg : (⟨2, ![1, 1024]⟩ : Shape).Broadcasts ⟨2, ![m, 1024]⟩) (r : Fin m) (j : Fin 1024) :
    normRows m p g b hr hφ hacc hc hb hg (ix2 r j)
      = norm (fun k => p (ix2 r k)) (fun k => g (ix2 0 k)) (fun k => b (ix2 0 k)) j := by
  have hd : ∀ k : Fin 1024, (subf p (broadcastTo _ (divf (shapeCast ⟨2, ![m, 1]⟩ (multiReduction .add [1] ⟨1, ![m]⟩ p 0x00000000#32 hr hφ hacc) hc)
      (broadcast ⟨2, ![m, 1]⟩ (Scalar.ofBits (F := Ideal) .f32 0x44800000#32))) hb)) (ix2 r k) = p (ix2 r k) - mean (fun k => p (ix2 r k)) := by
    intro k
    rw [subf_apply, spread_col, divf_apply, shapeCast_a_a1_apply, sum_rows, broadcast_apply]
    exact congrArg (fun z => p (ix2 r k) - Ideal.div _ z) bits_1024
  unfold normRows norm
  rw [addf_apply, mulf_apply, mulf_apply, broadcastTo_1b_ab_apply, broadcastTo_1b_ab_apply, spread_col, hd]
  refine congrArg (fun z => (p (ix2 r j) - mean (fun k => p (ix2 r k))) * z * g (ix2 0 j) + b (ix2 0 j)) ?_
  refine congrArg Ideal.rsqrt ?_
  rw [addf_apply, divf_apply, shapeCast_a_a1_apply, sum_rows, broadcast_apply, broadcast_apply]
  refine congrArg (fun z => z + eps) ?_
  unfold variance
  refine congrArg₂ Ideal.div (Finset.sum_congr rfl fun k _ => ?_) bits_1024
  rw [mulf_apply, hd]

end Cert.Pool
-- ==== Proof.ProjPay.lean ====
/-
  The vectors the projection call (region 0) of the idealised kernel stores, read at an index over the extended reals: scores,
  queries and values are rows times a matrix plus a row, the latter two normalised; row `k` of the indices is the `k`-th place.
-/
module

public import proofs.«01_k».proof.Proof.ProjRegion
public import proofs.«01_k».proof.Proof.Ops
public import proofs.«01_k».proof.Proof.Spec
public import Idealize.ShloMosaic.Lib.Pointwise.ShapeOpsCore
public import Idealize.ShloMosaic.Lib.Pipeline.ValueKit.Tiles

@[expose] public section

set_option maxRecDepth 16384

noncomputable section

namespace Cert.KernelIdeal.Proj

open Cert.KernelIdeal Cert.KernelIdeal.Gen Cert.Pool
open Idealize.ShloMosaic hiding ix1 ix2 ix3
open Idealize.ShloMosaic.ValueIdx
open scoped Classical

/-- A stored score: the row times the column, plus the bias. -/
theorem pay24_apply (x : Vec Ideal S1024x1024 .f32) (w : Vec Ideal S1024x100 .f32) (b : Vec Ideal S1x100 .f32) (r : Fin 1024) (j : Fin 100) :
    k0_pay24 x w b (ix2 r j) = ∑ k : Fin 1024, x (ix2 r k) * w (ix2 k j) + b (ix2 0 j) := by
  unfold k0_pay24
  rw [addf_apply, broadcastTo_1b_ab_apply, shapeCast_self]
  exact congrArg (· + b (ix2 0 j)) (dot_plain x w r j)

/-- Rows times a weight plus a bias, as the body spells it. -/
def pre (x w : Vec Ideal S1024x1024 .f32) (b : Vec Ideal S1x1024 .f32) : FVec Ideal ⟨2, ![1024, 1024]⟩ .f32 :=
  addf (matmul (DotDims.plain 1024 1024 1024) none (truncf .bf16 x bitsLt_bf16_f32) (truncf .bf16 w bitsLt_bf16_f32) (constant ⟨2, ![1024, 1024]⟩ .f32 0x00000000#32))
    (broadcastTo S1024x1024 (shapeCast S1x1024 b shapeCasts_S1x1024_S1x1024) broadcasts_S1x1024_S1024x1024)

theorem pre_apply (x w : Vec Ideal S1024x1024 .f32) (b : Vec Ideal S1x1024 .f32) (r j : Fin 1024) :
    pre x w b (ix2 r j) = ∑ k : Fin 1024, x (ix2 r k) * w (ix2 k j) + b (ix2 0 j) := by
  unfold pre
  rw [addf_apply, broadcastTo_1b_ab_apply, shapeCast_self]
  exact congrArg (· + b (ix2 0 j)) (dot_plain _ _ r j)

/-- A stored query: the row's projection, normalised. -/
theorem outQ_apply (x w : Vec Ideal S1024x1024 .f32) (b g bb : Vec Ideal S1x1024 .f32) (r j : Fin 1024) :
    outQ x w b g bb (ix2 r j)
      = norm (fun j => ∑ k : Fin 1024, x (ix2 r k) * w (ix2 k j) + b (ix2 0 j)) (fun j => g (ix2 0 j)) (fun j => bb (ix2 0 j)) j := by
  have h : outQ x w b g bb = truncf .bf16 (normRows 1024 (pre x w b) (shapeCast S1x1024 g shapeCasts_S1x1024_S1x1024)
      (shapeCast S1x1024 bb shapeCasts_S1x1024_S1x1024) reduces_S1024x1024_S1024 formats32 zero_neutral shapeCasts_S1024_S1024x1
      broadcasts_S1024x1_S1024x1024 broadcasts_S1x1024_S1024x1024) bitsLt_bf16_f32 := rfl
  rw [h, truncf_apply, normRows_apply, shapeCast_self, shapeCast_self]
  simp only [pre_apply]

/-- A stored value likewise. -/
theorem outV_apply (x w : Vec Ideal S1024x1024 .f32) (b g bb : Vec Ideal S1x1024 .f32) (r j : Fin 1024) :
    outV x w b g bb (ix2 r j)
      = norm (fun j => ∑ k : Fin 1024, x (ix2 r k) * w (ix2 k j) + b (ix2 0 j)) (fun j => g (ix2 0 j)) (fun j => bb (ix2 0 j)) j := by
  have h : outV x w b g bb = truncf .bf16 (normRows 1024 (pre x w b) (shapeCast S1x1024 g shapeCasts_S1x1024_S1x1024)
      (shapeCast S1x1024 bb shapeCasts_S1x1024_S1x1024) reduces_S1024x1024_S1024 formats32 zero_neutral shapeCasts_S1024_S1024x1
      broadcasts_S1024x1_S1024x1024 broadcasts_S1x1024_S1024x1024) bitsLt_bf16_f32 := rfl
  rw [h, truncf_apply, normRows_apply, shapeCast_self, shapeCast_self]
  simp only [pre_apply]

/-! ## The indices -/

theorem lift_col (h : Shape.Reduces S4096x100 [0] S100) (c : Fin 100) (t : Fin 4096) : h.lift (ix1 c) t = ix2 t c := by
  funext a
  apply Fin.ext
  match a with
  | ⟨0, _⟩ => rfl
  | ⟨1, _⟩ => rfl

/-- The greatest score of a column. -/
theorem colMax (v : FVec Ideal S4096x100 .f32) (c : Fin 100) :
    multiReduction .maximumf [0] S100 v 0xFF800000#32 reduces_S4096x100_S100 formats32 bot_neutral (ix1 c)
      = Finset.univ.fold max ⊥ (fun t : Fin 4096 => v (ix2 t c)) := by
  rw [Ideal.multiReduction_maximumf_single]
  refine (congrArg₂ (fun b f => Finset.univ.fold max b f) bits_bot ?_)
  funext t
  exact congrArg v (lift_col _ c t)

theorem rows_apply (t : Fin 4096) (c : Fin 100) : rows (ix2 t c) = BitVec.ofNat 32 t.val := by
  unfold rows
  rw [Idealize.ShloMosaic.iota_apply, List.foldl_cons, List.foldl_nil, Nat.zero_mul, Nat.zero_add]

theorem ofNat_inj {s t : Fin 4096} (h : BitVec.ofNat 32 t.val = BitVec.ofNat 32 s.val) : t = s := by
  have h' := congrArg BitVec.toNat h
  simp only [BitVec.toNat_ofNat] at h'
  apply Fin.ext
  omega

/-- The position the body picks in a column: the first of the greatest scores; and what it leaves of the column: minus infinity
    there, the score elsewhere. -/
theorem step (v : Vec Ideal S4096x100 .f32) (c : Fin 100) :
    ∃ s : Fin 4096, pick v (ix2 0 c) = BitVec.ofNat 32 s.val
      ∧ Finset.univ.fold max ⊥ (fun t : Fin 4096 => v (ix2 t c)) ≤ v (ix2 s c)
      ∧ (∀ t : Fin 4096, Finset.univ.fold max ⊥ (fun t : Fin 4096 => v (ix2 t c)) ≤ v (ix2 t c) → s ≤ t)
      ∧ ∀ t : Fin 4096, mask v (ix2 t c) = if t = s then ⊥ else v (ix2 t c) := by
  obtain ⟨s, hs, hm, hf⟩ := first_of_max (fun t : Fin 4096 => v (ix2 t c))
  have h8 : k0_pay8 v (ix1 c) = BitVec.ofNat 32 s.val := by
    rw [← hs]
    have hu : k0_pay8 v = multiReductionI .minsi [0] S100 (select (top v) rows (broadcast S4096x100 4096#32)) 2147483647#32 reduces_S4096x100_S100 rfl := rfl
    rw [hu]
    refine (multiReductionI_eq_fold (s := S4096x100) (axes := [0]) (t := S100) .minsi _ _ reduces_S4096x100_S100 rfl (ix1 c)).trans ?_
    refine (Shape.Reduces.fold_filter_drop_single reduces_S4096x100_S100 _ _ _ (ix1 c)).trans ?_
    refine congrArg (fun f => Finset.univ.fold IntOp.minsi 2147483647#32 f) ?_
    have hsel : ∀ t : Fin 4096, select (top v) rows (broadcast S4096x100 4096#32) (ix2 t c)
        = if Finset.univ.fold max ⊥ (fun t : Fin 4096 => v (ix2 t c)) ≤ v (ix2 t c) then BitVec.ofNat 32 t.val else 4096#32 := by
      intro t
      have ht : top v (ix2 t c) = BitVec.ofBool (decide (Finset.univ.fold max ⊥ (fun t : Fin 4096 => v (ix2 t c)) ≤ v (ix2 t c))) := by
        rw [← colMax]
        unfold top
        rw [cmpf_apply, broadcastTo_1b_ab_apply, shapeCast_a_1a_apply, Ideal.cmpf_def]
        unfold Ideal.cmp
        refine congrArg BitVec.ofBool ?_
        exact decide_eq_decide.mpr Iff.rfl
      rw [select_apply, ht, rows_apply, broadcast_apply]
      by_cases h : Finset.univ.fold max ⊥ (fun t : Fin 4096 => v (ix2 t c)) ≤ v (ix2 t c)
      · rw [if_pos h, decide_eq_true h]
        exact select_one _ _
      · rw [if_neg h, decide_eq_false h]
        exact select_zero _ _
    funext t
    refine Eq.trans ?_ (hsel t)
    rw [Function.comp_apply]
    exact congrArg (select (top v) rows (broadcast S4096x100 4096#32)) (lift_col _ c t)
  refine ⟨s, ?_, hm, hf, fun t => ?_⟩
  · unfold pick k0_pay9
    rw [shapeCast_a_1a_apply, h8]
  · unfold mask k0_pay10
    rw [select_apply, broadcast_apply]
    have hc : cmpi .eq rows
        (broadcastTo S4096x100 (shapeCast S1x100 (k0_pay8 v) shapeCasts_S100_S1x100) broadcasts_S1x100_S4096x100) (ix2 t c)
        = BitVec.ofBool (decide (t = s)) := by
      have hb : broadcastTo S4096x100 (shapeCast S1x100 (k0_pay8 v) shapeCasts_S100_S1x100) broadcasts_S1x100_S4096x100 (ix2 t c)
          = BitVec.ofNat 32 s.val := by
        rw [broadcastTo_1b_ab_apply, shapeCast_a_1a_apply, h8]
      refine (congrArg₂ (IntOp.cmpi .eq) (rows_apply t c) hb).trans ?_
      refine congrArg BitVec.ofBool ?_
      rw [Bool.eq_iff_iff]
      refine (beq_iff_eq).trans (Iff.trans ?_ decide_eq_true_iff.symm)
      exact ⟨ofNat_inj, fun h => by rw [h]⟩
    rw [hc]
    by_cases h : t = s
    · rw [if_pos h, decide_eq_true h]
      exact (select_one _ _).trans bits_bot
    · rw [if_neg h, decide_eq_false h]
      exact select_zero _ _

/-- What the body leaves of a column after `k` picks is the column with the `k` first places at minus infinity; -/
theorem masks (v : Vec Ideal S4096x100 .f32) (c : Fin 100) (hv : ∀ t : Fin 4096, v (ix2 t c) ≠ ⊥) :
    ∀ k : ℕ, k < 4096 → ∀ t : Fin 4096, mask^[k] v (ix2 t c) = masked (fun t : Fin 4096 => v (ix2 t c)) k t
  | 0, _, t => by rw [masked_zero]; rfl
  | k + 1, hk, t => by
    have ih := masks v c hv k (by omega)
    rw [Function.iterate_succ_apply']
    obtain ⟨s, -, hm, hf, hx⟩ := step (mask^[k] v) c
    rw [hx t, ih t]
    simp only [ih] at hm hf
    rw [← masked_succ (fun t : Fin 4096 => v (ix2 t c))
      (rank_pick (fun t : Fin 4096 => v (ix2 t c)) hv (k := k) (by omega) (fun t => le_fold_max _ t) hm hf) t]

/-- and the position it picks next is the `k`-th place. -/
theorem picks (v : Vec Ideal S4096x100 .f32) (c : Fin 100) (hv : ∀ t : Fin 4096, v (ix2 t c) ≠ ⊥) (k : ℕ) (hk : k < 4096) :
    pick (mask^[k] v) (ix2 0 c) = BitVec.ofNat 32 (place (fun t : Fin 4096 => v (ix2 t c)) ⟨k, hk⟩).val := by
  obtain ⟨s, hs, hm, hf, -⟩ := step (mask^[k] v) c
  have ih := masks v c hv k hk
  simp only [ih] at hm hf
  rw [hs]
  refine congrArg (fun z : Fin 4096 => BitVec.ofNat 32 z.val) (rank_inj (fun t : Fin 4096 => v (ix2 t c)) ?_)
  rw [rank_pick (fun t : Fin 4096 => v (ix2 t c)) hv (k := k) hk (fun t => le_fold_max _ t) hm hf]
  exact (rank_sorted (fun t : Fin 4096 => v (ix2 t c)) ⟨k, hk⟩).symm

/-- Row `k` of the stored indices. -/
theorem outI_apply (v : Vec Ideal S4096x100 .f32) (k : Fin 8) (c : Fin 100) :
    outI v (ix2 k c) = pick (mask^[k.val] v) (ix2 0 c) := by
  unfold outI
  refine View.canon_eq_of_allAt (pieces v) (ix2 k c) _ (coverI v _) ?_
  have row : ∀ (n : ℕ) (hn : n < 8), View.TileAt (Val := Elt Ideal) (e := .i32) (ix2 k c : S8x100.Idx) ![n, 0] S1x100.size (pick (mask^[n] v)) (pick (mask^[k.val] v) (ix2 0 c)) := by
    intro n hn x hx
    have h0 : k.val = n + (x 0).val := hx 0
    have hx0 : (x 0).val < 1 := (x 0).isLt
    have h1 : c.val = 0 + (x 1).val := hx 1
    have hk : k.val = n := by omega
    rw [hk]
    refine congrArg (pick (mask^[n] v)) ?_
    funext a
    apply Fin.ext
    match a with
    | ⟨0, _⟩ => show (x 0).val = 0; omega
    | ⟨1, _⟩ => show (x 1).val = c.val; omega
  exact View.allAt_cons_unit _ _ _ _ _ (row 7 (by decide)) <| View.allAt_cons_unit _ _ _ _ _ (row 6 (by decide)) <|
    View.allAt_cons_unit _ _ _ _ _ (row 5 (by decide)) <| View.allAt_cons_unit _ _ _ _ _ (row 4 (by decide)) <|
    View.allAt_cons_unit _ _ _ _ _ (row 3 (by decide)) <| View.allAt_cons_unit _ _ _ _ _ (row 2 (by decide)) <|
    View.allAt_cons_unit _ _ _ _ _ (row 1 (by decide)) <| View.allAt_cons_unit _ _ _ _ _ (row 0 (by decide)) <| View.allAt_nil _ _

end Cert.KernelIdeal.Proj
-- ==== Proof.ProjValue.lean ====
/-
  What the projection call leaves in its four result arrays, entry by entry, from the arrays it finds.
-/
module

public import proofs.«01_k».proof.Proof.ProjPay
public import Idealize.ShloMosaic.Lib.Pipeline.ValueKit.Geometry

@[expose] public section

set_option maxRecDepth 16384

noncomputable section

namespace Cert.KernelIdeal.Proj

open Cert.KernelIdeal Cert.KernelIdeal.Gen Cert.Pool
open Idealize.ShloMosaic hiding ix1 ix2 ix3
open Idealize.ShloMosaic.ValueIdx Idealize.ShloMosaic.TcCoe
open Idealize.ShloMosaic.Pipeline (Dat Cfg Window)

variable (W : Entry Ideal) (c : Dev nD)

/-- The row-blocked windows sit at block `t` of the rows; -/
theorem at_0 : ∀ t : Fin cfg0.N, win0_0.index t = ![t.val, 0] := (by decide +kernel : ∀ t : Fin grid0.N, _)
theorem at_11 : ∀ t : Fin cfg0.N, win0_11.index t = ![t.val, 0] := (by decide +kernel : ∀ t : Fin grid0.N, _)
theorem at_12 : ∀ t : Fin cfg0.N, win0_12.index t = ![t.val, 0] := (by decide +kernel : ∀ t : Fin grid0.N, _)
theorem at_13 : ∀ t : Fin cfg0.N, win0_13.index t = ![t.val, 0] := (by decide +kernel : ∀ t : Fin grid0.N, _)
/-- the others hold their whole array. -/
theorem at_1 : ∀ t : Fin cfg0.N, win0_1.index t = ![0, 0] := (by decide +kernel : ∀ t : Fin grid0.N, _)
theorem at_2 : ∀ t : Fin cfg0.N, win0_2.index t = ![0, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![0, 0] := (by decide +kernel : ∀ t : Fin grid0.N, _)
theorem at_8 : ∀ t : Fin cfg0.N, win0_8.index t = ![0, 0] := (by decide +kernel : ∀ t : Fin grid0.N, _)
theorem at_9 : ∀ t : Fin cfg0.N, win0_9.index t = ![0, 0] := (by decide +kernel : ∀ t : Fin grid0.N, _)
theorem at_10 : ∀ t : Fin cfg0.N, win0_10.index t = ![0, 0] := (by decide +kernel : ∀ t : Fin grid0.N, _)
theorem at_14 : ∀ t : Fin cfg0.N, win0_14.index t = ![0, 0] := (by decide +kernel : ∀ t : Fin grid0.N, _)

/-- Block `t` of the points: the points from `1024 t`. -/
theorem blk_0 (t : Fin cfg0.N) (r k : Fin 1024) (s : Fin 4096) (hs : s.val = 1024 * t.val + r.val) :
    iblk W c 0 t (ix2 r k) = W c main_arg0 (ix2 s k) := by
  blk_simp [iblk]
  congr 1
  blk_ext [at_0, hs]
  show t.val * 1024 + r.val = _
  omega

theorem blk_1 (t : Fin cfg0.N) : iblk W c 1 t = W c main_arg1 := by
  funext y; blk_simp [iblk]; congr 1; blk_ext [at_1]
theorem blk_2 (t : Fin cfg0.N) : iblk W c 2 t = W c main_v0 := by
  funext y; blk_simp [iblk]; congr 1; blk_ext [at_2]
theorem blk_3 (t : Fin cfg0.N) : iblk W c 3 t = W c main_arg7 := by
  funext y; blk_simp [iblk]; congr 1; blk_ext [at_3]
theorem blk_4 (t : Fin cfg0.N) : iblk W c 4 t = W c main_v1 := by
  funext y; blk_simp [iblk]; congr 1; blk_ext [at_4]
theorem blk_5 (t : Fin cfg0.N) : iblk W c 5 t = W c main_v2 := by
  funext y; blk_simp [iblk]; congr 1; blk_ext [at_5]
theorem blk_6 (t : Fin cfg0.N) : iblk W c 6 t = W c main_v3 := by
  funext y; blk_simp [iblk]; congr 1; blk_ext [at_6]
theorem blk_7 (t : Fin cfg0.N) : iblk W c 7 t = W c main_arg11 := by
  funext y; blk_simp [iblk]; congr 1; blk_ext [at_7]
theorem blk_8 (t : Fin cfg0.N) : iblk W c 8 t = W c main_v4 := by
  funext y; blk_simp [iblk]; congr 1; blk_ext [at_8]
theorem blk_9 (t : Fin cfg0.N) : iblk W c 9 t = W c main_v5 := by
  funext y; blk_simp [iblk]; congr 1; blk_ext [at_9]
theorem blk_10 (t : Fin cfg0.N) : iblk W c 10 t = W c main_v6 := by
  funext y; blk_simp [iblk]; congr 1; blk_ext [at_10]

/-- The row of the array at row `r` of block `t`. -/
def rowAt (t : Fin cfg0.N) (r : Fin 1024) : Fin 4096 := ⟨1024 * t.val + r.val, by have h : t.val < 4 := t.isLt; omega⟩

/-- The assignment scores in memory before this call runs: points times weights, plus the bias; -/
def score (s : Fin 4096) (j : Fin 100) : EReal :=
  affine (fun s k => W c main_arg0 (ix2 s k)) (fun k j => W c main_arg1 (ix2 k j)) (fun j => W c main_v0 (ix2 0 j)) s j
/-- the queries; -/
def query (s : Fin 4096) (j : Fin 1024) : EReal :=
  proj (fun s k => W c main_arg0 (ix2 s k)) (fun k j => W c main_arg7 (ix2 k j)) (fun j => W c main_v1 (ix2 0 j))
    (fun j => W c main_v2 (ix2 0 j)) (fun j => W c main_v3 (ix2 0 j)) s j
/-- the values. -/
def value (s : Fin 4096) (j : Fin 1024) : EReal :=
  proj (fun s k => W c main_arg0 (ix2 s k)) (fun k j => W c main_arg11 (ix2 k j)) (fun j => W c main_v4 (ix2 0 j))
    (fun j => W c main_v5 (ix2 0 j)) (fun j => W c main_v6 (ix2 0 j)) s j

/-- A point's block of scores, entry by entry. -/
theorem score_blk (t : Fin cfg0.N) (r : Fin 1024) (j : Fin 100) :
    k0_pay24 (iblk W c 0 t) (iblk W c 1 t) (iblk W c 2 t) (ix2 r j) = score W c (rowAt t r) j := by
  rw [pay24_apply, blk_1, blk_2]
  unfold score affine
  simp only [blk_0 W c t r _ (rowAt t r) rfl]

/-- The first result array holds the scores; -/
theorem final_c : (dat W c).arrAt 11 cfg0.N = fun i => score W c (i 0) (i 1) := by
  refine (dat W c).arrAt_eq_of_covers 11 _ (by decide +kernel) fun t _ y => ?_
  blk_simp
  rw [after_11]
  obtain ⟨r, j, rfl⟩ : ∃ r j, y = ix2 r j := ⟨y 0, y 1, ValueIdx.eq_ix2 y⟩
  refine (score_blk W c t r j).trans ?_
  congr 1 <;> refine Fin.ext ?_ <;> blk_simp [at_11]
  · show 1024 * t.val + r.val = t.val * 1024 + r.val; omega
  · rfl

/-- the second the queries; -/
theorem final_q : (dat W c).arrAt 12 cfg0.N = fun i => query W c (i 0) (i 1) := by
  refine (dat W c).arrAt_eq_of_covers 12 _ (by decide +kernel) fun t _ y => ?_
  blk_simp
  rw [after_12]
  obtain ⟨r, j, rfl⟩ : ∃ r j, y = ix2 r j := ⟨y 0, y 1, ValueIdx.eq_ix2 y⟩
  rw [outQ_apply, blk_3, blk_4, blk_5, blk_6]
  simp only [blk_0 W c t r _ (rowAt t r) rfl]
  show query W c (rowAt t r) j = _
  congr 1 <;> refine Fin.ext ?_ <;> blk_simp [at_12]
  · show 1024 * t.val + r.val = t.val * 1024 + r.val; omega
  · rfl

/-- the third the values; -/
theorem final_v : (dat W c).arrAt 13 cfg0.N = fun i => value W c (i 0) (i 1) := by
  refine (dat W c).arrAt_eq_of_covers 13 _ (by decide +kernel) fun t _ y => ?_
  blk_simp
  rw [after_13]
  obtain ⟨r, j, rfl⟩ : ∃ r j, y = ix2 r j := ⟨y 0, y 1, ValueIdx.eq_ix2 y⟩
  rw [outV_apply, blk_7, blk_8, blk_9, blk_10]
  simp only [blk_0 W c t r _ (rowAt t r) rfl]
  show value W c (rowAt t r) j = _
  congr 1 <;> refine Fin.ext ?_ <;> blk_simp [at_13]
  · show 1024 * t.val + r.val = t.val * 1024 + r.val; omega
  · rfl

/-- The scratch, filled slice by slice, holds all the scores. -/
theorem scores_apply (s : Fin 4096) (j : Fin 100) : scores W c (ix2 s j) = score W c s j := by
  have h : within (ix2 s j) = ix2 (⟨s.val % 1024, Nat.mod_lt _ (by norm_num)⟩ : Fin 1024) j := by
    funext a; fin_cases a <;> rfl
  have e : rowAt (slot (ix2 s j)) ⟨s.val % 1024, Nat.mod_lt _ (by norm_num)⟩ = s := Fin.ext (by
    show 1024 * (s.val / 1024) + s.val % 1024 = s.val; omega)
  refine (show scores W c (ix2 s j) = k0_pay24 (iblk W c 0 (slot (ix2 s j))) (iblk W c 1 (slot (ix2 s j))) (iblk W c 2 (slot (ix2 s j))) (within (ix2 s j)) from ?_).trans ?_
  · unfold scores k0_pay25
    exact congrFun (shapeCast_self _ _) _
  · rw [h, score_blk, e]

/-- and the fourth, for a slot whose scores are none of them −∞, the places of its eight greatest scores. -/
theorem final_idx (hv : ∀ s j, score W c s j ≠ ⊥) : (dat W c).arrAt 14 cfg0.N
    = fun i => BitVec.ofNat 32 (place (fun s => score W c s (i 1)) (Fin.castLE (by decide) (i 0 : Fin 8))).val := by
  refine (dat W c).arrAt_eq_of_covers 14 _ (by decide +kernel) fun t _ y => ?_
  blk_simp
  rw [after_14]
  obtain ⟨k, j, rfl⟩ : ∃ k j, y = ix2 k j := ⟨y 0, y 1, ValueIdx.eq_ix2 y⟩
  rw [outI_apply, picks _ _ (fun s => by rw [scores_apply]; exact hv s j) k.val (by omega)]
  simp only [scores_apply]
  have h0 : ((((cfg0.win 14).blk t).view.emb (ix2 k j)) 0 : Fin 8) = k := by refine Fin.ext ?_; blk_simp [at_14]; rfl
  have h1 : ((((cfg0.win 14).blk t).view.emb (ix2 k j)) 1 : Fin 100) = j := by refine Fin.ext ?_; blk_simp [at_14]; rfl
  rw [h0, h1]
  rfl

end Cert.KernelIdeal.Proj
-- ==== Proof.KeyPay.lean ====
/-
  The vectors the key-projection call (region 1) of the idealised kernel computes, read at an index over the extended reals: a
  zero-one matrix times the rows takes the rows named by the indices, and the accumulated products are normalised.
-/
module

public import proofs.«01_k».proof.Proof.KeyRegion
public import proofs.«01_k».proof.Proof.Ops
public import proofs.«01_k».proof.Proof.Spec
public import Idealize.ShloMosaic.Lib.Pipeline.ValueKit.Tiles
public import Idealize.ShloMosaic.Lib.Pointwise.ShapeOpsCore

@[expose] public section

set_option maxRecDepth 16384

noncomputable section

namespace Cert.KernelIdeal.KeyProj

open Cert.KernelIdeal Cert.KernelIdeal.Gen Cert.Pool
open Idealize.ShloMosaic hiding ix1 ix2 ix3
open Idealize.ShloMosaic.ValueIdx

/-- The zero-one matrix: row `c` has its one at the position the indices name. -/
def hot (v : Vec Ideal S1x100 .i32) : FVec Ideal S100x4096 .f32 :=
  sitofp .f32 (extui 32 (cmpi .eq (iota .tc S100x4096 32 [1] iota_S100x4096_d1_w32)
    (broadcastTo S100x4096 (shapeCast S100x1 (shapeCast S1x100 v shapeCasts_S1x100_S1x100) shapeCasts_S1x100_S100x1) broadcasts_S100x1_S100x4096)) natLt_1_32)

theorem ofNat_inj {s t : Fin 4096} (h : BitVec.ofNat 32 t.val = BitVec.ofNat 32 s.val) : t = s := by
  have h' := congrArg BitVec.toNat h
  simp only [BitVec.toNat_ofNat] at h'
  apply Fin.ext
  omega

theorem hot_apply (v : Vec Ideal S1x100 .i32) (c : Fin 100) (p : Fin 4096) (hp : v (ix2 0 c) = BitVec.ofNat 32 p.val) (s : Fin 4096) :
    hot v (ix2 c s) = if s = p then 1 else 0 := by
  unfold hot
  rw [sitofp_apply, extui_apply]
  have hi : iota .tc S100x4096 32 [1] iota_S100x4096_d1_w32 (ix2 c s) = BitVec.ofNat 32 s.val := by
    rw [Idealize.ShloMosaic.iota_apply, List.foldl_cons, List.foldl_nil, Nat.zero_mul, Nat.zero_add]
  have hb : broadcastTo S100x4096 (shapeCast S100x1 (shapeCast S1x100 v shapeCasts_S1x100_S1x100) shapeCasts_S1x100_S100x1) broadcasts_S100x1_S100x4096 (ix2 c s)
      = BitVec.ofNat 32 p.val := by
    rw [spread_col, shapeCast_self, ← hp]
    refine shapeCast_apply v shapeCasts_S1x100_S100x1 (ix2 c (0 : Fin 1)) (ix2 (0 : Fin 1) c) ?_
    rw [Shape.rowMajor_val_two, Shape.rowMajor_val_two]
    show 0 * 100 + c.val = c.val * 1 + 0
    omega
  have hc : cmpi .eq (iota .tc S100x4096 32 [1] iota_S100x4096_d1_w32)
      (broadcastTo S100x4096 (shapeCast S100x1 (shapeCast S1x100 v shapeCasts_S1x100_S1x100) shapeCasts_S1x100_S100x1) broadcasts_S100x1_S100x4096) (ix2 c s)
      = BitVec.ofBool (decide (s = p)) := by
    refine (congrArg₂ (IntOp.cmpi .eq) hi hb).trans (congrArg BitVec.ofBool ?_)
    rw [Bool.eq_iff_iff]
    refine (beq_iff_eq).trans (Iff.trans ?_ decide_eq_true_iff.symm)
    exact ⟨ofNat_inj, fun h => by rw [h]⟩
  rw [hc]
  by_cases h : s = p
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- A point's product at slot `c`: the named row times the weight block. -/
theorem pay1_apply (v : Vec Ideal S1x100 .i32) (x : Vec Ideal S4096x1024 .f32) (w : Vec Ideal S1024x1024 .f32) (c : Fin 100) (j : Fin 1024)
    (p : Fin 4096) (hp : v (ix2 0 c) = BitVec.ofNat 32 p.val) :
    k1_pay1 v x w (ix2 c j) = ∑ k : Fin 1024, x (ix2 p k) * w (ix2 k j) := by
  have hu : k1_pay1 v x w = matmul (DotDims.plain 100 1024 1024) none (truncf .bf16 (matmul (DotDims.plain 100 4096 1024) none
      (truncf .bf16 (hot v) bitsLt_bf16_f32) (truncf .bf16 x bitsLt_bf16_f32) (constant S100x1024 .f32 0x00000000#32)) bitsLt_bf16_f32)
      (truncf .bf16 w bitsLt_bf16_f32) (constant S100x1024 .f32 0x00000000#32) := rfl
  rw [hu]
  refine (dot_plain _ _ c j).trans (Finset.sum_congr rfl fun k _ => congrArg (· * w (ix2 k j)) ?_)
  refine (dot_plain (truncf .bf16 (hot v) bitsLt_bf16_f32) (truncf .bf16 x bitsLt_bf16_f32) c k).trans ?_
  refine (Finset.sum_congr rfl fun s _ => congrArg (· * x (ix2 s k)) (hot_apply v c p hp s)).trans ?_
  rw [Finset.sum_eq_single p]
  · rw [if_pos rfl, one_mul]
  · intro s _ hs
    rw [if_neg hs, zero_mul]
  · intro h
    exact absurd (Finset.mem_univ _) h

/-- Entry `d` of head `h` of slot `c`'s stored key: the accumulated row plus the bias, normalised. -/
theorem pay4_apply (a : Vec Ideal S100x1024 .f32) (b g bb : Vec Ideal S1x1024 .f32) (h : Fin 16) (c : Fin 100) (d : Fin 64) :
    k1_pay4 a b g bb (ix3 h c d)
      = norm (fun j => a (ix2 c j) + b (ix2 0 j)) (fun j => g (ix2 0 j)) (fun j => bb (ix2 0 j)) (headCol h d) := by
  have hu : k1_pay4 a b g bb = transpose S16x100x64 [1, 0, 2] (shapeCast S100x16x64 (truncf .bf16 (normRows 100
      (addf a (broadcastTo S100x1024 (shapeCast S1x1024 b shapeCasts_S1x1024_S1x1024) broadcasts_S1x1024_S100x1024))
      (shapeCast S1x1024 g shapeCasts_S1x1024_S1x1024) (shapeCast S1x1024 bb shapeCasts_S1x1024_S1x1024) reduces_S100x1024_S100
      formats32 zero_neutral shapeCasts_S100_S100x1 broadcasts_S100x1_S100x1024 broadcasts_S1x1024_S100x1024) bitsLt_bf16_f32)
      shapeCasts_S100x1024_S100x16x64) transposes_S100x16x64_p1_0_2_S16x100x64 := rfl
  rw [hu]
  rw [transpose_apply [1, 0, 2] _ transposes_S100x16x64_p1_0_2_S16x100x64 (ix3 h c d) (ix3 c h d) (fun b => by
    match b with
    | ⟨0, _⟩ => rfl
    | ⟨1, _⟩ => rfl
    | ⟨2, _⟩ => rfl)]
  rw [shapeCast_apply _ shapeCasts_S100x1024_S100x16x64 (ix3 c h d) (ix2 c (headCol h d)) (by
    rw [Shape.rowMajor_val_two, Shape.rowMajor_val_three]
    show c.val * 1024 + (64 * h.val + d.val) = (c.val * 16 + h.val) * 64 + d.val
    omega)]
  rw [truncf_apply, normRows_apply]
  simp only [shapeCast_self, addf_apply, broadcastTo_1b_ab_apply]

end Cert.KernelIdeal.KeyProj
-- ==== Proof.OutPay.lean ====
/-
  The vector the output call (region 3) of the idealised kernel stores, read at an index over the extended reals: the slots'
  averages, all heads end to end, times the projection, plus the bias, normalised.
-/
module

public import proofs.«01_k».proof.Proof.OutRegion
public import proofs.«01_k».proof.Proof.Ops
public import proofs.«01_k».proof.Proof.Spec
public import Idealize.ShloMosaic.Lib.Pipeline.ValueKit.Tiles

@[expose] public section

set_option maxRecDepth 16384

noncomputable section

namespace Cert.KernelIdeal.OutProj

open Cert.KernelIdeal Cert.KernelIdeal.Gen Cert.Pool
open Idealize.ShloMosaic
open Idealize.ShloMosaic.ValueIdx

/-- A sum over blocks and the places in a block is the sum over all places. -/
theorem sum_blocks {A B N : ℕ} (hN : A * B = N) (f : Fin N → EReal) :
    ∑ h : Fin A, ∑ d : Fin B, f ⟨B * h.val + d.val, by
      have h1 : B * h.val + B ≤ B * A := by rw [← Nat.mul_succ]; exact Nat.mul_le_mul_left _ h.isLt
      have := d.isLt; rw [← hN, Nat.mul_comm A B]; omega⟩ = ∑ m : Fin N, f m := by
  subst hN
  have e := Fintype.sum_equiv finProdFinEquiv (fun p : Fin A × Fin B => f (finProdFinEquiv p)) f fun _ => rfl
  rw [← e, Fintype.sum_prod_type]
  refine Finset.sum_congr rfl fun h _ => Finset.sum_congr rfl fun d _ => congrArg f (Fin.ext ?_)
  show B * h.val + d.val = d.val + B * h.val
  omega

theorem inbP (n : Fin 16) : ∀ a, (![64 * n.val, 0] : Fin 2 → Nat) a + S64x1024.size a ≤ S1024x1024.size a := by
  intro a
  match a with
  | ⟨0, _⟩ => show 64 * n.val + 64 ≤ 1024; omega
  | ⟨1, _⟩ => show 0 + 1024 ≤ 1024; omega

theorem slicesV (n : Fin 16) : S16x100x64.Slices ![n.val, 0, 0] S1x100x64 := by
  refine ⟨rfl, fun a => ?_⟩
  match a with
  | ⟨0, _⟩ => show n.val + 1 ≤ 16; omega
  | ⟨1, _⟩ => show 0 + 100 ≤ 100; omega
  | ⟨2, _⟩ => show 0 + 64 ≤ 64; omega

/-- One head's averages times its sixty-four rows of the projection. -/
def term (v : Vec Ideal S16x100x64 .f32) (wp : Vec Ideal S1024x1024 .f32) (n : Fin 16) : FVec Ideal S100x1024 .f32 :=
  matmul (φ₁ := .f32) (φ₂ := .f32) (DotDims.plain 100 64 1024) none
    (shapeCast S100x64 (extractStridedSlice S1x100x64 ![n.val, 0, 0] (k3_pay1 v) (slicesV n)) shapeCasts_S1x100x64_S100x64)
    (View.ld wp (rp (64 * n.val) (inbP n)) : FVec Ideal S64x1024 .f32) (constant S100x1024 .f32 0x00000000#32)

theorem term_apply (v : Vec Ideal S16x100x64 .f32) (wp : Vec Ideal S1024x1024 .f32) (n : Fin 16) (c : Fin 100) (j : Fin 1024) :
    term v wp n (ix2 c j) = ∑ d : Fin 64, v (ix3 n c d) * wp (ix2 ⟨64 * n.val + d.val, by omega⟩ j) := by
  unfold term k3_pay1
  refine (dot_plain _ _ c j).trans (Finset.sum_congr rfl fun d _ => congrArg₂ (· * ·) ?_ ?_)
  · rw [shapeCast_1ab_ab_apply, shapeCast_self]
    refine extractStridedSlice_apply _ v (slicesV n) (ix3 (0 : Fin 1) c d) (ix3 n c d) fun a => ?_
    match a with
    | ⟨0, _⟩ => rfl
    | ⟨1, _⟩ => show c.val = 0 + c.val; omega
    | ⟨2, _⟩ => show d.val = 0 + d.val; omega
  · refine View.ld_unit_apply_of wp _ _ (inbP n) (ix2 d j) (ix2 ⟨64 * n.val + d.val, by omega⟩ j) fun a => ?_
    match a with
    | ⟨0, _⟩ => rfl
    | ⟨1, _⟩ => show j.val = 0 + j.val; omega

/-- The first `n` heads' terms added to zero. -/
def upto (v : Vec Ideal S16x100x64 .f32) (wp : Vec Ideal S1024x1024 .f32) : (n : ℕ) → n ≤ 16 → FVec Ideal S100x1024 .f32
  | 0, _ => broadcast S100x1024 (Scalar.ofBits .f32 0x00000000#32)
  | n + 1, h => addf (upto v wp n (Nat.le_of_succ_le h)) (term v wp ⟨n, h⟩)

theorem upto_apply (v : Vec Ideal S16x100x64 .f32) (wp : Vec Ideal S1024x1024 .f32) (c : Fin 100) (j : Fin 1024) :
    ∀ (n : ℕ) (h : n ≤ 16), upto v wp n h (ix2 c j) = ∑ i : Fin n, term v wp ⟨i.val, by omega⟩ (ix2 c j)
  | 0, _ => bits_zero
  | n + 1, h => by
    rw [Fin.sum_univ_castSucc]
    exact congrArg (· + term v wp ⟨n, h⟩ (ix2 c j)) (upto_apply v wp c j n (Nat.le_of_succ_le h))

theorem ld_b (b : Vec Ideal S1x1024 .f32) : View.ld b rb = b := View.ld_unit_zero (by decide) _ b

/-- The stored vector is the normalisation of all heads' terms plus the bias. -/
theorem payO_eq (v : Vec Ideal S16x100x64 .f32) (wp : Vec Ideal S1024x1024 .f32) (b g bb : Vec Ideal S1x1024 .f32) :
    payO v wp b g bb = normRows 100
      (addf (upto v wp 16 le_rfl) (broadcastTo S100x1024 (shapeCast S1x1024 b shapeCasts_S1x1024_S1x1024) broadcasts_S1x1024_S100x1024))
      (shapeCast S1x1024 g shapeCasts_S1x1024_S1x1024)
      (shapeCast S1x1024 bb shapeCasts_S1x1024_S1x1024) reduces_S100x1024_S100 formats32 zero_neutral shapeCasts_S100_S100x1
      broadcasts_S100x1_S100x1024 broadcasts_S1x1024_S100x1024 := by
  unfold payO
  rw [ld_b, ld_b, ld_b]
  rfl

theorem ld_v (v : Vec Ideal S16x100x64 .f32) : View.ld v rv = v := View.ld_unit_zero (by decide) _ v

/-- The stored output at slot `c`, column `j`. -/
theorem outO_apply (v : Vec Ideal S16x100x64 .f32) (wp : Vec Ideal S1024x1024 .f32) (b g bb : Vec Ideal S1x1024 .f32) (c : Fin 100) (j : Fin 1024) :
    outO v wp b g bb (ix2 c j)
      = norm (fun j => ∑ m : Fin 1024, v (ix3 (⟨m.val / 64, by omega⟩ : Fin 16) c (⟨m.val % 64, by omega⟩ : Fin 64)) * wp (ix2 m j) + b (ix2 0 j))
          (fun j => g (ix2 0 j)) (fun j => bb (ix2 0 j)) j := by
  unfold outO
  rw [View.canon_unit_zero (by decide), ld_v, payO_eq, normRows_apply]
  simp only [shapeCast_self, addf_apply, broadcastTo_1b_ab_apply, ld_b]
  refine congrArg (fun p => norm p (fun j => g (ix2 0 j)) (fun j => bb (ix2 0 j)) j) ?_
  funext j
  rw [upto_apply]
  refine congrArg (· + b (ix2 0 j)) ?_
  simp only [term_apply]
  rw [← sum_blocks (A := 16) (B := 64) (N := 1024) rfl]
  refine Finset.sum_congr rfl fun h _ => Finset.sum_congr rfl fun d _ => ?_
  have e1 : (⟨(64 * h.val + d.val) / 64, by omega⟩ : Fin 16) = h := Fin.ext (by show (64 * h.val + d.val) / 64 = h.val; omega)
  have e2 : (⟨(64 * h.val + d.val) % 64, by omega⟩ : Fin 64) = d := Fin.ext (by show (64 * h.val + d.val) % 64 = d.val; omega)
  rw [e1, e2]

end Cert.KernelIdeal.OutProj
-- ==== Proof.KeyValue.lean ====
/-
  What the key call leaves in its result array, entry by entry, from the arrays it finds: the picked rows of the points
  laid end to end, through the weights, added up over the eight grid points.
-/
module

public import proofs.«01_k».proof.Proof.KeyPay
public import proofs.«01_k».proof.Proof.OutPay
public import Idealize.ShloMosaic.Lib.Pipeline.ValueKit.Geometry

@[expose] public section

set_option maxRecDepth 16384

noncomputable section

namespace Cert.KernelIdeal.KeyProj

open Cert.KernelIdeal.OutProj (sum_blocks)
open Cert.KernelIdeal Cert.KernelIdeal.Gen Cert.Pool
open Idealize.ShloMosaic hiding ix1 ix2 ix3
open Idealize.ShloMosaic.ValueIdx Idealize.ShloMosaic.TcCoe
open Idealize.ShloMosaic.Pipeline (Dat Cfg Window)

variable (W : Entry Ideal) (c : Dev nD)

/-- Where each window sits at point `t`. -/
theorem at_0 : ∀ t : Fin cfg1.N, win1_0.index t = ![0, 0] := (by decide +kernel : ∀ t : Fin grid1.N, _)
theorem at_1 : ∀ t : Fin cfg1.N, win1_1.index t = ![0, 0] := (by decide +kernel : ∀ t : Fin grid1.N, _)
theorem at_2 : ∀ t : Fin cfg1.N, win1_2.index t = ![t.val, 0] := (by decide +kernel : ∀ t : Fin grid1.N, _)
theorem at_3 : ∀ t : Fin cfg1.N, win1_3.index t = ![0, 0] := (by decide +kernel : ∀ t : Fin grid1.N, _)
theorem at_4 : ∀ t : Fin cfg1.N, win1_4.index t = ![0, 0] := (by decide +kernel : ∀ t : Fin grid1.N, _)
theorem at_5 : ∀ t : Fin cfg1.N, win1_5.index t = ![0, 0] := (by decide +kernel : ∀ t : Fin grid1.N, _)
theorem at_6 : ∀ t : Fin cfg1.N, win1_6.index t = ![0, 0, 0] := (by decide +kernel : ∀ t : Fin grid1.N, _)
theorem off_eq : ∀ t : Fin cfg1.N, k1_off1 (grid1.coords t) = ![t.val, 0] := (by decide +kernel : ∀ t : Fin grid1.N, _)

/-- The windows that hold their whole array. -/
theorem blk_0 (t : Fin cfg1.N) : iblk W c 0 t = W c main_v13_3 := by
  funext y; blk_simp [iblk]; congr 1; blk_ext [at_0]
theorem blk_1 (t : Fin cfg1.N) : iblk W c 1 t = W c main_arg0 := by
  funext y; blk_simp [iblk]; congr 1; blk_ext [at_1]
theorem blk_3 (t : Fin cfg1.N) : iblk W c 3 t = W c main_v7 := by
  funext y; blk_simp [iblk]; congr 1; blk_ext [at_3]
theorem blk_4 (t : Fin cfg1.N) : iblk W c 4 t = W c main_v8 := by
  funext y; blk_simp [iblk]; congr 1; blk_ext [at_4]
theorem blk_5 (t : Fin cfg1.N) : iblk W c 5 t = W c main_v9 := by
  funext y; blk_simp [iblk]; congr 1; blk_ext [at_5]

/-- Block `t` of the weights: their rows from `1024 t`. -/
theorem blk_2 (t : Fin cfg1.N) (k j : Fin 1024) (s : Fin 8192) (hs : s.val = 1024 * t.val + k.val) :
    iblk W c 2 t (ix2 k j) = W c main_arg3 (ix2 s j) := by
  blk_simp [iblk]
  congr 1
  blk_ext [at_2, hs]
  show t.val * 1024 + k.val = _
  omega

variable (p : Fin 100 → Fin 8 → Fin 4096)

/-- The points and the weights as functions of row and column. -/
def pts (s : Fin 4096) (k : Fin 1024) : EReal := W c main_arg0 (ix2 s k)
def wts (k : Fin 8192) (j : Fin 1024) : EReal := W c main_arg3 (ix2 k j)

/-- Entry `1024 t + k` of a slot's eight rows laid end to end is entry `k` of its row `t`. -/
theorem rowsOf_at (X : Fin 4096 → Fin 1024 → EReal) (s : Fin 100) (t : Fin 8) (k : Fin 1024) :
    rowsOf X p s ⟨1024 * t.val + k.val, by omega⟩ = X (p s t) k := by
  have h1 : (⟨(1024 * t.val + k.val) / 1024, by omega⟩ : Fin 8) = t := Fin.ext (by show (1024 * t.val + k.val) / 1024 = t.val; omega)
  have h2 : (⟨(1024 * t.val + k.val) % 1024, by omega⟩ : Fin 1024) = k := Fin.ext (by show (1024 * t.val + k.val) % 1024 = k.val; omega)
  show X (p s ⟨(1024 * t.val + k.val) / 1024, _⟩) ⟨(1024 * t.val + k.val) % 1024, _⟩ = _
  rw [h1, h2]

/-- One grid point's share of an entry of the product. -/
def share (s : Fin 100) (j : Fin 1024) (t : Fin 8) : EReal :=
  ∑ k : Fin 1024, rowsOf (pts W c) p s ⟨1024 * t.val + k.val, by omega⟩ * wts W c ⟨1024 * t.val + k.val, by omega⟩ j

/-- The keys: each slot's picked rows end to end, through the weights, plus the bias, normalised. -/
def key (s : Fin 100) (j : Fin 1024) : EReal :=
  proj (rowsOf (pts W c) p) (wts W c) (fun j => W c main_v7 (ix2 0 j)) (fun j => W c main_v8 (ix2 0 j)) (fun j => W c main_v9 (ix2 0 j)) s j

/-- The indices in memory name the rows `p`. -/
def Names : Prop := ∀ (k : Fin 8) (s : Fin 100), W c main_v13_3 (ix2 k s) = BitVec.ofNat 32 (p s k).val

variable {p}

/-- A point's product is its share. -/
theorem share_apply (hp : Names W c p) (t : Fin cfg1.N) (t' : Fin 8) (ht : t'.val = t.val) (s : Fin 100) (j : Fin 1024) :
    k1_pay1 (View.ld (iblk W c 0 t) (ri (grid1.coords t))) (iblk W c 1 t) (iblk W c 2 t) (ix2 s j) = share W c p s j t' := by
  have hl : View.ld (iblk W c 0 t) (ri (grid1.coords t)) (ix2 0 s) = BitVec.ofNat 32 (p s t').val := by
    rw [blk_0, ← hp t' s]
    refine View.ld_unit_apply_of _ _ _ _ _ _ fun a => ?_
    have h0 : k1_off1 (grid1.coords t) 0 = t.val := congrFun (off_eq t) 0
    have h1 : k1_off1 (grid1.coords t) 1 = 0 := congrFun (off_eq t) 1
    fin_cases a
    · show t'.val = k1_off1 (grid1.coords t) 0 + 0; omega
    · show s.val = k1_off1 (grid1.coords t) 1 + s.val; omega
  rw [pay1_apply _ _ _ s j (p s t') hl, blk_1]
  refine Finset.sum_congr rfl fun k _ => ?_
  rw [blk_2 W c t k j ⟨1024 * t'.val + k.val, by omega⟩ (by rw [← ht])]
  rw [rowsOf_at]
  rfl

/-- After point `n` the accumulator holds the shares up to it. -/
theorem acc_apply (hp : Names W c p) (s : Fin 100) (j : Fin 1024) : ∀ (n : ℕ) (h : n < cfg1.N),
    acc W c n h (ix2 s j) = ∑ t : Fin (n + 1), share W c p s j (Fin.castLE (n := n + 1) (m := 8) h t)
  | 0, h => by
      have e : acc W c 0 h = k1_pay1 (View.ld (iblk W c 0 ⟨0, h⟩) (ri (grid1.coords ⟨0, h⟩))) (iblk W c 1 ⟨0, h⟩) (iblk W c 2 ⟨0, h⟩) := by
        show first _ _ _ _ = _
        unfold first k1_pay2
        exact shapeCast_self _ _
      rw [e, share_apply W c hp ⟨0, h⟩ ⟨0, by omega⟩ rfl, Fin.sum_univ_one]
      rfl
  | n + 1, h => by
      have e : acc W c (n + 1) h = addf (acc W c n (Nat.lt_of_succ_lt h)) (k1_pay1 (View.ld (iblk W c 0 ⟨n + 1, h⟩) (ri (grid1.coords ⟨n + 1, h⟩))) (iblk W c 1 ⟨n + 1, h⟩) (iblk W c 2 ⟨n + 1, h⟩)) := by
        show next _ _ _ _ _ = _
        unfold next k1_pay3
        exact shapeCast_self _ _
      rw [e, addf_apply, share_apply W c hp ⟨n + 1, h⟩ ⟨n + 1, h⟩ rfl, acc_apply hp s j n (Nat.lt_of_succ_lt h)]
      exact (Fin.sum_univ_castSucc (fun t : Fin (n + 2) => share W c p s j (Fin.castLE (m := 8) h t))).symm

/-- After the last it holds the whole product. -/
theorem acc_last (hp : Names W c p) (s : Fin 100) (j : Fin 1024) (h : 7 < cfg1.N) :
    acc W c 7 h (ix2 s j) = ∑ k : Fin 8192, rowsOf (pts W c) p s k * wts W c k j := by
  rw [acc_apply W c hp s j 7 h, ← sum_blocks (A := 8) (B := 1024) (by norm_num) (fun k => rowsOf (pts W c) p s k * wts W c k j)]
  rfl

/-- The result array holds the keys, head by head. -/
theorem final_k (hp : Names W c p) : (dat W c).arrAt 6 cfg1.N = fun i => key W c p (i 1) (headCol (i 0) (i 2)) := by
  refine (dat W c).arrAt_eq_of_covers 6 _ (by decide +kernel) fun t hf y => ?_
  have ht : t.val = 7 := by
    by_contra hn
    rw [noFlush_6 t hn] at hf
    exact Bool.false_ne_true hf
  blk_simp
  rw [after_6]
  obtain ⟨h, s, d, rfl⟩ : ∃ h s d, y = ix3 h s d := ⟨y 0, y 1, y 2, ValueIdx.eq_ix3 y⟩
  rw [pay4_apply, blk_3, blk_4, blk_5]
  have h0 : ((((cfg1.win 6).blk t).view.emb (ix3 h s d)) 0 : Fin 16) = h := by refine Fin.ext ?_; blk_simp [at_6]; rfl
  have h1 : ((((cfg1.win 6).blk t).view.emb (ix3 h s d)) 1 : Fin 100) = s := by refine Fin.ext ?_; blk_simp [at_6]; rfl
  have h2 : ((((cfg1.win 6).blk t).view.emb (ix3 h s d)) 2 : Fin 64) = d := by refine Fin.ext ?_; blk_simp [at_6]; rfl
  rw [h0, h1, h2]
  obtain ⟨t, hlt⟩ := t
  obtain rfl : t = 7 := ht
  simp only [acc_last W c hp]
  rfl

end Cert.KernelIdeal.KeyProj
-- ==== Proof.AttnPay.lean ====
/-
  The vectors the attention call (region 2) of the idealised kernel stores, read at an index over the extended reals: two heads'
  softmaxes of their logits, and the values averaged under them.
-/
module

public import proofs.«01_k».proof.Proof.AttnRegion
public import proofs.«01_k».proof.Proof.Ops
public import proofs.«01_k».proof.Proof.Spec
public import Idealize.ShloMosaic.Lib.Pipeline.ValueKit.Tiles

@[expose] public section

set_option maxRecDepth 16384

noncomputable section

namespace Cert.KernelIdeal.Attn

open Cert.KernelIdeal Cert.KernelIdeal.Gen Cert.Pool
open Idealize.ShloMosaic
open Idealize.ShloMosaic.ValueIdx

/-- A product contracting the rows of both sides, from a zero start. -/
theorem dot_cols {φ₁ φ₂ : FTy} (a : FVec Ideal S4096x100 φ₁) (b : FVec Ideal S4096x64 φ₂) (r : Fin 100) (c : Fin 64) :
    matmul dot_S4096x100_S4096x64_S100x64_0_0_1_1_n_n none a b (constant S100x64 .f32 0x00000000#32) (ix2 r c)
      = ∑ k : Fin 4096, a (ix2 k r) * b (ix2 k c) := by
  refine (Ideal.matmul_apply dot_S4096x100_S4096x64_S100x64_0_0_1_1_n_n none a b _ (ix2 r c)).trans ?_
  rw [constant_apply, bits_zero, zero_add]
  refine Fintype.sum_equiv (contrEquiv1 dot_S4096x100_S4096x64_S100x64_0_0_1_1_n_n 4096 rfl rfl) _ _ fun q => ?_
  refine congrArg₂ (fun x y => a x * b y) ?_ ?_
  · funext x
    apply Fin.ext
    match x with
    | ⟨0, _⟩ => rfl
    | ⟨1, _⟩ => rfl
  · funext x
    apply Fin.ext
    match x with
    | ⟨0, _⟩ => rfl
    | ⟨1, _⟩ => rfl

/-- The exponentials of a head's logits, the head being sixty-four columns of the queries' block. -/
def expo (o : Fin 2 → ℕ) (ho : S4096x128.Slices o S4096x64) (q : FVec Ideal S4096x128 .bf16) (k : FVec Ideal S1x100x64 .bf16) : FVec Ideal S4096x100 .f32 :=
  exp (mulf (matmul (DotDims.transposedRhs 4096 64 100) none (extractStridedSlice S4096x64 o (shapeCast S4096x128 q shapeCasts_S4096x128_S4096x128) ho)
    (shapeCast S100x64 k shapeCasts_S1x100x64_S100x64) (constant S4096x100 .f32 0x00000000#32)) (broadcast S4096x100 (Scalar.ofBits .f32 0x3E000000#32)))

theorem slice_apply (o : ℕ) (ho : S4096x128.Slices ![0, o] S4096x64) (hw : o ≤ 64) (q : FVec Ideal S4096x128 .bf16) (s : Fin 4096) (d : Fin 64) :
    extractStridedSlice S4096x64 ![0, o] (shapeCast S4096x128 q shapeCasts_S4096x128_S4096x128) ho (ix2 s d) = q (ix2 s ⟨o + d.val, by omega⟩) := by
  rw [shapeCast_self]
  refine extractStridedSlice_apply _ q ho (ix2 s d) (ix2 s ⟨o + d.val, by omega⟩) fun a => ?_
  match a with
  | ⟨0, _⟩ => show s.val = 0 + s.val; omega
  | ⟨1, _⟩ => rfl

theorem expo_apply (o : ℕ) (ho : S4096x128.Slices ![0, o] S4096x64) (hw : o ≤ 64) (q : FVec Ideal S4096x128 .bf16) (k : FVec Ideal S1x100x64 .bf16)
    (s : Fin 4096) (c : Fin 100) :
    expo ![0, o] ho q k (ix2 s c)
      = Ideal.exp ((∑ d : Fin 64, q (ix2 s ⟨o + d.val, by omega⟩) * k (ix3 0 c d)) * ((1 / 8 : ℝ) : EReal)) := by
  refine congrArg Ideal.exp ?_
  refine congrArg₂ (· * ·) ?_ bits_eighth
  refine (dot_trhs _ _ s c).trans (Finset.sum_congr rfl fun d _ => ?_)
  rw [slice_apply o ho hw, shapeCast_1ab_ab_apply]

/-- Exponentials divided by their row's sum. -/
def share (e : FVec Ideal S4096x100 .f32) : FVec Ideal S4096x100 .f32 :=
  divf e (broadcastTo S4096x100 (shapeCast S4096x1 (multiReduction .add [1] S4096 e 0x00000000#32 reduces_S4096x100_S4096 formats32 zero_neutral)
    shapeCasts_S4096_S4096x1) broadcasts_S4096x1_S4096x100)

theorem share_apply (e : FVec Ideal S4096x100 .f32) (s : Fin 4096) (c : Fin 100) :
    share e (ix2 s c) = Ideal.div (e (ix2 s c)) (∑ k : Fin 100, e (ix2 s k)) := by
  unfold share
  rw [divf_apply, spread_col, shapeCast_a_a1_apply]
  exact congrArg (Ideal.div (e (ix2 s c))) (sum_rows e _ _ _ s)

/-- A head's logits, the head at column `o` of the block. -/
def lg (o : ℕ) (hw : o ≤ 64) (q : FVec Ideal S4096x128 .bf16) (k : Fin 100 → Fin 64 → EReal) (s : Fin 4096) (c : Fin 100) : EReal :=
  (∑ d : Fin 64, q (ix2 s ⟨o + d.val, by omega⟩) * k c d) * ((1 / 8 : ℝ) : EReal)

theorem share_expo (o : ℕ) (ho : S4096x128.Slices ![0, o] S4096x64) (hw : o ≤ 64) (q : FVec Ideal S4096x128 .bf16) (k : FVec Ideal S1x100x64 .bf16)
    (s : Fin 4096) (c : Fin 100) :
    share (expo ![0, o] ho q k) (ix2 s c) = soft (lg o hw q (fun c d => k (ix3 0 c d)) s) c := by
  rw [share_apply]
  simp only [expo_apply o ho hw]
  rfl

theorem pay7_apply (q : Vec Ideal S4096x128 .bf16) (k : Vec Ideal S1x100x64 .bf16) (u : Fin 1) (s : Fin 4096) (c : Fin 100) :
    k2_pay7 q k (ix3 u s c) = soft (lg 0 (by decide) q (fun c d => k (ix3 0 c d)) s) c := by
  unfold k2_pay7
  rw [shapeCast_ab_1ab_apply]
  exact share_expo 0 slices_S4096x128_o0_0_S4096x64 (by decide) q k s c

theorem pay2_apply (q : Vec Ideal S4096x128 .bf16) (k : Vec Ideal S1x100x64 .bf16) (u : Fin 1) (s : Fin 4096) (c : Fin 100) :
    k2_pay2 (k2_pay10 q k) (k2_pay11 q k) (ix3 u s c) = soft (lg 64 (by decide) q (fun c d => k (ix3 0 c d)) s) c := by
  unfold k2_pay2
  rw [shapeCast_ab_1ab_apply]
  exact share_expo 64 slices_S4096x128_o0_64_S4096x64 (by decide) q k s c

theorem pay8_apply (q v : Vec Ideal S4096x128 .bf16) (k : Vec Ideal S1x100x64 .bf16) (u : Fin 1) (c : Fin 100) (d : Fin 64) :
    k2_pay8 q v k (ix3 u c d)
      = ∑ s : Fin 4096, soft (lg 0 (by decide) q (fun c d => k (ix3 0 c d)) s) c * v (ix2 s ⟨0 + d.val, by omega⟩) := by
  unfold k2_pay8
  rw [shapeCast_ab_1ab_apply]
  refine (dot_cols _ _ c d).trans (Finset.sum_congr rfl fun s _ => congrArg₂ (· * ·) ?_ ?_)
  · exact share_expo 0 slices_S4096x128_o0_0_S4096x64 (by decide) q k s c
  · exact slice_apply 0 slices_S4096x128_o0_0_S4096x64 (by decide) v s d

theorem pay3_apply (q v : Vec Ideal S4096x128 .bf16) (k : Vec Ideal S1x100x64 .bf16) (u : Fin 1) (c : Fin 100) (d : Fin 64) :
    k2_pay3 (k2_pay9 v) (k2_pay10 q k) (k2_pay11 q k) (ix3 u c d)
      = ∑ s : Fin 4096, soft (lg 64 (by decide) q (fun c d => k (ix3 0 c d)) s) c * v (ix2 s ⟨64 + d.val, by omega⟩) := by
  unfold k2_pay3
  rw [shapeCast_ab_1ab_apply]
  refine (dot_cols _ _ c d).trans (Finset.sum_congr rfl fun s _ => congrArg₂ (· * ·) ?_ ?_)
  · exact share_expo 64 slices_S4096x128_o0_64_S4096x64 (by decide) q k s c
  · exact slice_apply 64 slices_S4096x128_o0_64_S4096x64 (by decide) v s d

theorem ld_q (q : Vec Ideal S4096x128 .bf16) : View.ld q rq = q := View.ld_unit_zero (by decide) _ q

/-- The keys of head `h` of the block's two. -/
theorem ld_k (k : Vec Ideal S2x100x64 .bf16) (h : ℕ) (hh : h < 2) (inb) (c : Fin 100) (d : Fin 64) :
    View.ld k (Rect.unit (s := S2x100x64) ![h, 0, 0] S1x100x64.size inb) (ix3 (0 : Fin 1) c d) = k (ix3 (⟨h, hh⟩ : Fin 2) c d) :=
  View.ld_unit_apply_of k _ _ inb (ix3 (0 : Fin 1) c d) (ix3 (⟨h, hh⟩ : Fin 2) c d) fun a => by
    match a with
    | ⟨0, _⟩ => rfl
    | ⟨1, _⟩ => show c.val = 0 + c.val; omega
    | ⟨2, _⟩ => show d.val = 0 + d.val; omega

/-- The stored attention of head `h` of the block's two. -/
theorem outA_apply (q : Vec Ideal S4096x128 .bf16) (k : Vec Ideal S2x100x64 .bf16) (h : Fin 2) (s : Fin 4096) (c : Fin 100) :
    outA q k (ix3 h s c) = soft (lg (64 * h.val) (by omega) q (fun c d => k (ix3 h c d)) s) c := by
  unfold outA
  refine View.canon_eq_of_allAt _ (ix3 h s c) _ (coverA _ _ _) ?_
  refine View.allAt_cons_unit _ _ _ _ _ (fun x hx => ?_) (View.allAt_cons_unit _ _ _ _ _ (fun x hx => ?_) (View.allAt_nil _ _))
  all_goals
    have h0 := hx 0
    have h1 := hx 1
    have h2 := hx 2
    have hx0 : (x 0).val < 1 := (x 0).isLt
    have hxe : x = ix3 (0 : Fin 1) s c := by
      funext a
      apply Fin.ext
      match a with
      | ⟨0, _⟩ => show (x 0).val = 0; omega
      | ⟨1, _⟩ => show (x 1).val = s.val; exact (h1.trans (Nat.zero_add _)).symm
      | ⟨2, _⟩ => show (x 2).val = c.val; exact (h2.trans (Nat.zero_add _)).symm
    rw [hxe]
  · have hh : h = 1 := by
      apply Fin.ext
      have : h.val = 1 + (x 0).val := h0
      show h.val = 1
      omega
    subst hh
    refine (pay2_apply _ _ 0 s c).trans ?_
    rw [ld_q]
    simp only [ld_k k 1 (by decide)]
    rfl
  · have hh : h = 0 := by
      apply Fin.ext
      have : h.val = 0 + (x 0).val := h0
      show h.val = 0
      omega
    subst hh
    refine (pay7_apply _ _ 0 s c).trans ?_
    rw [ld_q]
    simp only [ld_k k 0 (by decide)]
    rfl

/-- The stored averages of head `h` of the block's two. -/
theorem outV_apply (q : Vec Ideal S4096x128 .bf16) (k : Vec Ideal S2x100x64 .bf16) (v : Vec Ideal S4096x128 .bf16) (h : Fin 2) (c : Fin 100) (d : Fin 64) :
    outV q k v (ix3 h c d)
      = ∑ s : Fin 4096, soft (lg (64 * h.val) (by omega) q (fun c d => k (ix3 h c d)) s) c * v (ix2 s ⟨64 * h.val + d.val, by omega⟩) := by
  unfold outV
  refine View.canon_eq_of_allAt _ (ix3 h c d) _ (coverV _ _ _) ?_
  refine View.allAt_cons_unit _ _ _ _ _ (fun x hx => ?_) (View.allAt_cons_unit _ _ _ _ _ (fun x hx => ?_) (View.allAt_nil _ _))
  all_goals
    have h0 := hx 0
    have h1 := hx 1
    have h2 := hx 2
    have hx0 : (x 0).val < 1 := (x 0).isLt
    have hxe : x = ix3 (0 : Fin 1) c d := by
      funext a
      apply Fin.ext
      match a with
      | ⟨0, _⟩ => show (x 0).val = 0; omega
      | ⟨1, _⟩ => show (x 1).val = c.val; exact (h1.trans (Nat.zero_add _)).symm
      | ⟨2, _⟩ => show (x 2).val = d.val; exact (h2.trans (Nat.zero_add _)).symm
    rw [hxe]
  · have hh : h = 1 := by
      apply Fin.ext
      have : h.val = 1 + (x 0).val := h0
      show h.val = 1
      omega
    subst hh
    refine (pay3_apply _ _ _ 0 c d).trans ?_
    rw [ld_q, ld_q]
    simp only [ld_k k 1 (by decide)]
    rfl
  · have hh : h = 0 := by
      apply Fin.ext
      have : h.val = 0 + (x 0).val := h0
      show h.val = 0
      omega
    subst hh
    refine (pay8_apply _ _ _ 0 c d).trans ?_
    rw [ld_q, ld_q]
    simp only [ld_k k 0 (by decide)]
    rfl

end Cert.KernelIdeal.Attn
-- ==== Proof.AttnValue.lean ====
/-
  What the attention call leaves in its two result arrays, entry by entry, from the arrays it finds.
-/
module

public import proofs.«01_k».proof.Proof.AttnPay
public import Idealize.ShloMosaic.Lib.Pipeline.ValueKit.Geometry

@[expose] public section

set_option maxRecDepth 16384

noncomputable section

namespace Cert.KernelIdeal.Attn

open Cert.KernelIdeal Cert.KernelIdeal.Gen Cert.Pool
open Idealize.ShloMosaic
open Idealize.ShloMosaic.ValueIdx Idealize.ShloMosaic.TcCoe
open Idealize.ShloMosaic.Pipeline (Dat Cfg Window)

variable (W : Entry Ideal) (c : Dev nD)

/-- Where each window sits at point `t`. -/
theorem at_0 : ∀ t : Fin cfg2.N, win2_0.index t = ![0, t.val] := (by decide +kernel : ∀ t : Fin grid2.N, _)
theorem at_1 : ∀ t : Fin cfg2.N, win2_1.index t = ![t.val, 0, 0] := (by decide +kernel : ∀ t : Fin grid2.N, _)
theorem at_2 : ∀ t : Fin cfg2.N, win2_2.index t = ![0, t.val] := (by decide +kernel : ∀ t : Fin grid2.N, _)
theorem at_3 : ∀ t : Fin cfg2.N, win2_3.index t = ![t.val, 0, 0] := (by decide +kernel : ∀ t : Fin grid2.N, _)
theorem at_4 : ∀ t : Fin cfg2.N, win2_4.index t = ![t.val, 0, 0] := (by decide +kernel : ∀ t : Fin grid2.N, _)

/-- Point `t` takes columns from `128 t` of the queries, -/
theorem blk_0 (t : Fin cfg2.N) (s : Fin 4096) (e : Fin 128) (j : Fin 1024) (hj : j.val = 128 * t.val + e.val) :
    iblk W c 0 t (ix2 s e) = W c main_v13_1 (ix2 s j) := by
  blk_simp [iblk]
  congr 1
  blk_ext [at_0, hj]
  show t.val * 128 + e.val = _
  omega
/-- the two heads from `2 t` of the keys, -/
theorem blk_1 (t : Fin cfg2.N) (h : Fin 2) (s : Fin 100) (d : Fin 64) (h' : Fin 16) (hh : h'.val = 2 * t.val + h.val) :
    iblk W c 1 t (ix3 h s d) = W c main_v14 (ix3 h' s d) := by
  blk_simp [iblk]
  congr 1
  blk_ext [at_1, hh]
  show t.val * 2 + h.val = _
  omega
/-- and the same columns of the values. -/
theorem blk_2 (t : Fin cfg2.N) (s : Fin 4096) (e : Fin 128) (j : Fin 1024) (hj : j.val = 128 * t.val + e.val) :
    iblk W c 2 t (ix2 s e) = W c main_v13_2 (ix2 s j) := by
  blk_simp [iblk]
  congr 1
  blk_ext [at_2, hj]
  show t.val * 128 + e.val = _
  omega

/-- Queries, values and keys as functions of row and column. -/
def qs (s : Fin 4096) (j : Fin 1024) : EReal := W c main_v13_1 (ix2 s j)
def vs (s : Fin 4096) (j : Fin 1024) : EReal := W c main_v13_2 (ix2 s j)
def ks (s : Fin 100) (j : Fin 1024) : EReal := W c main_v14 (ix3 ⟨j.val / 64, by omega⟩ s ⟨j.val % 64, by omega⟩)

/-- The attention of head `h`: the softmax of its logits over the slots. -/
def attn (h : Fin 16) (s : Fin 4096) (k : Fin 100) : EReal := soft (logit (qs W c) (ks W c) h s) k

/-- The head at place `h` of point `t`'s two. -/
def headAt (t : Fin cfg2.N) (h : Fin 2) : Fin 16 := ⟨2 * t.val + h.val, by have h : t.val < 8 := t.isLt; omega⟩

/-- A point's logits are its heads' logits. -/
theorem lg_eq (t : Fin cfg2.N) (h : Fin 2) (hw : 64 * h.val ≤ 64) (s : Fin 4096) :
    lg (64 * h.val) hw (iblk W c 0 t) (fun k d => iblk W c 1 t (ix3 h k d)) s = logit (qs W c) (ks W c) (headAt t h) s := by
  funext k
  unfold lg logit
  congr 1
  refine Finset.sum_congr rfl fun d _ => ?_
  beta_reduce
  rw [blk_0 W c t s _ (headCol (headAt t h) d) (by show 64 * (2 * t.val + h.val) + d.val = 128 * t.val + (64 * h.val + d.val); omega),
    blk_1 W c t h k d (headAt t h) rfl]
  unfold qs ks
  congr 3
  · refine Fin.ext ?_
    show 2 * t.val + h.val = (64 * (2 * t.val + h.val) + d.val) / 64; omega
  · refine Fin.ext ?_
    show d.val = (64 * (2 * t.val + h.val) + d.val) % 64; omega

/-- A point's averages are its heads' averages. -/
theorem pooled_at (t : Fin cfg2.N) (h : Fin 2) (k : Fin 100) (d : Fin 64) (hw : 64 * h.val ≤ 64) :
    ∑ s : Fin 4096, soft (lg (64 * h.val) hw (iblk W c 0 t) (fun k d => iblk W c 1 t (ix3 h k d)) s) k
        * iblk W c 2 t (ix2 s ⟨64 * h.val + d.val, by omega⟩)
      = pooled (attn W c) (vs W c) k (headCol (headAt t h) d) := by
  have e : (⟨(headCol (headAt t h) d).val / 64, by omega⟩ : Fin 16) = headAt t h := Fin.ext (by
    show (64 * (2 * t.val + h.val) + d.val) / 64 = 2 * t.val + h.val; omega)
  unfold pooled
  rw [e]
  refine Finset.sum_congr rfl fun s _ => ?_
  rw [lg_eq, blk_2 W c t s _ (headCol (headAt t h) d) (by show 64 * (2 * t.val + h.val) + d.val = 128 * t.val + (64 * h.val + d.val); omega)]
  rfl

/-- The first result array holds the attention; -/
theorem final_a : (dat W c).arrAt 3 cfg2.N = fun i => attn W c (i 0) (i 1) (i 2) := by
  refine (dat W c).arrAt_eq_of_covers 3 _ (by decide +kernel) fun t _ y => ?_
  blk_simp
  rw [after_3]
  obtain ⟨h, s, k, rfl⟩ : ∃ h s k, y = ix3 h s k := ⟨y 0, y 1, y 2, ValueIdx.eq_ix3 y⟩
  have h0 : ((((cfg2.win 3).blk t).view.emb (ix3 h s k)) 0 : Fin 16) = headAt t h := by
    refine Fin.ext ?_; blk_simp [at_3]; show t.val * 2 + h.val = 2 * t.val + h.val; omega
  have h1 : ((((cfg2.win 3).blk t).view.emb (ix3 h s k)) 1 : Fin 4096) = s := by refine Fin.ext ?_; blk_simp [at_3]; rfl
  have h2 : ((((cfg2.win 3).blk t).view.emb (ix3 h s k)) 2 : Fin 100) = k := by refine Fin.ext ?_; blk_simp [at_3]; rfl
  rw [h0, h1, h2, outA_apply, lg_eq]
  rfl

/-- the second the averages of the values under it. -/
theorem final_p : (dat W c).arrAt 4 cfg2.N = fun i => pooled (attn W c) (vs W c) (i 1) (headCol (i 0) (i 2)) := by
  refine (dat W c).arrAt_eq_of_covers 4 _ (by decide +kernel) fun t _ y => ?_
  blk_simp
  rw [after_4]
  obtain ⟨h, k, d, rfl⟩ : ∃ h k d, y = ix3 h k d := ⟨y 0, y 1, y 2, ValueIdx.eq_ix3 y⟩
  have h0 : ((((cfg2.win 4).blk t).view.emb (ix3 h k d)) 0 : Fin 16) = headAt t h := by
    refine Fin.ext ?_; blk_simp [at_4]; show t.val * 2 + h.val = 2 * t.val + h.val; omega
  have h1 : ((((cfg2.win 4).blk t).view.emb (ix3 h k d)) 1 : Fin 100) = k := by refine Fin.ext ?_; blk_simp [at_4]; rfl
  have h2 : ((((cfg2.win 4).blk t).view.emb (ix3 h k d)) 2 : Fin 64) = d := by refine Fin.ext ?_; blk_simp [at_4]; rfl
  rw [h0, h1, h2, outV_apply]
  exact pooled_at W c t h k d _

end Cert.KernelIdeal.Attn
-- ==== Proof.OutValue.lean ====
/-
  What the output call leaves in its result array, entry by entry, from the arrays it finds.
-/
module

public import proofs.«01_k».proof.Proof.OutPay
public import Idealize.ShloMosaic.Lib.Pipeline.ValueKit.Geometry

@[expose] public section

set_option maxRecDepth 16384

noncomputable section

namespace Cert.KernelIdeal.OutProj

open Cert.KernelIdeal Cert.KernelIdeal.Gen Cert.Pool
open Idealize.ShloMosaic
open Idealize.ShloMosaic.ValueIdx Idealize.ShloMosaic.TcCoe
open Idealize.ShloMosaic.Pipeline (Dat Cfg Window)

variable (W : Entry Ideal) (c : Dev nD)

/-- Every window holds its whole array. -/
theorem at_0 : ∀ t : Fin cfg3.N, win3_0.index t = ![0, 0, 0] := (by decide +kernel : ∀ t : Fin grid3.N, _)
theorem at_1 : ∀ t : Fin cfg3.N, win3_1.index t = ![0, 0] := (by decide +kernel : ∀ t : Fin grid3.N, _)
theorem at_2 : ∀ t : Fin cfg3.N, win3_2.index t = ![0, 0] := (by decide +kernel : ∀ t : Fin grid3.N, _)
theorem at_3 : ∀ t : Fin cfg3.N, win3_3.index t = ![0, 0] := (by decide +kernel : ∀ t : Fin grid3.N, _)
theorem at_4 : ∀ t : Fin cfg3.N, win3_4.index t = ![0, 0] := (by decide +kernel : ∀ t : Fin grid3.N, _)
theorem at_5 : ∀ t : Fin cfg3.N, win3_5.index t = ![0, 0] := (by decide +kernel : ∀ t : Fin grid3.N, _)
theorem blk_0 (t : Fin cfg3.N) : iblk W c 0 t = W c main_v15_1 := by
  funext y; blk_simp [iblk]; congr 1; blk_ext [at_0]
theorem blk_1 (t : Fin cfg3.N) : iblk W c 1 t = W c main_arg15 := by
  funext y; blk_simp [iblk]; congr 1; blk_ext [at_1]
theorem blk_2 (t : Fin cfg3.N) : iblk W c 2 t = W c main_v10 := by
  funext y; blk_simp [iblk]; congr 1; blk_ext [at_2]
theorem blk_3 (t : Fin cfg3.N) : iblk W c 3 t = W c main_v11 := by
  funext y; blk_simp [iblk]; congr 1; blk_ext [at_3]
theorem blk_4 (t : Fin cfg3.N) : iblk W c 4 t = W c main_v12 := by
  funext y; blk_simp [iblk]; congr 1; blk_ext [at_4]

/-- The projected and normalised slots. -/
def out (k : Fin 100) (j : Fin 1024) : EReal :=
  proj (fun (k : Fin 100) (e : Fin 1024) => W c main_v15_1 (ix3 ⟨e.val / 64, by omega⟩ k ⟨e.val % 64, by omega⟩)) (fun e j => W c main_arg15 (ix2 e j))
    (fun j => W c main_v10 (ix2 0 j)) (fun j => W c main_v11 (ix2 0 j)) (fun j => W c main_v12 (ix2 0 j)) k j

/-- The result array holds them. -/
theorem final_o : (dat W c).arrAt 5 cfg3.N = fun i => out W c (i 0) (i 1) := by
  refine (dat W c).arrAt_eq_of_covers 5 _ (by decide +kernel) fun t _ y => ?_
  blk_simp
  rw [after_5]
  obtain ⟨k, j, rfl⟩ : ∃ k j, y = ix2 k j := ⟨y 0, y 1, ValueIdx.eq_ix2 y⟩
  have h0 : ((((cfg3.win 5).blk t).view.emb (ix2 k j)) 0 : Fin 100) = k := by refine Fin.ext ?_; blk_simp [at_5]; rfl
  have h1 : ((((cfg3.win 5).blk t).view.emb (ix2 k j)) 1 : Fin 1024) = j := by refine Fin.ext ?_; blk_simp [at_5]; rfl
  rw [h0, h1, outO_apply, blk_0, blk_1, blk_2, blk_3, blk_4]
  rfl

end Cert.KernelIdeal.OutProj
-- ==== Proof.KernelRead.lean ====
/-
  The four calls one after the other, each from what the ones before it left: what the kernel's results hold at the end, as the
  block's results of the arguments as launched.
-/
module

public import proofs.«01_k».proof.Proof.Block
public import proofs.«01_k».proof.Proof.ProjValue
public import proofs.«01_k».proof.Proof.KeyValue
public import proofs.«01_k».proof.Proof.AttnValue
public import proofs.«01_k».proof.Proof.OutValue
public import proofs.«01_k».proof.Proof.Frame
public import Idealize.ShloMosaic.Lib.StableHlo.RunRead

@[expose] public section

set_option maxRecDepth 16384

noncomputable section

namespace Cert.KernelIdeal.Run

open Cert.KernelIdeal Cert.KernelIdeal.Gen Cert.Pool
open Idealize.ShloMosaic hiding ix1 ix2 ix3
open Idealize.ShloMosaic.ValueIdx Idealize.ShloMosaic.TcCoe

variable (m : (ℓ : Loc nD τ sig) → Buf (Elt Ideal) ℓ) (c : Dev nD)

/-- An argument as launched. -/
abbrev arg (r : Ref sig .tc) : Buf (Elt Ideal) ((c.tc : Thread nD τ).loc r) := m ((c.tc : Thread nD τ).loc r)

/-- The arguments' entries. -/
def params : Params :=
  ofArrays (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14) (arg m c main_arg15) (arg m c main_arg16) (arg m c main_arg17)
    (arg m c main_arg18)

/-- The host's reshapes leave what they do not write; each call leaves what it does not write back. -/
theorem keep1 (r : Ref sig .tc) (h : r ∉ hostOps0_W) : W1 m c r = arg m c r := (V1_of m c r h).trans rfl
theorem keep2 (r : Ref sig .tc) (h : ∀ w, Pipeline.arrRef spec0 w = r → (cfg0.win w).isOut = false) : W2 m c r = W1 m c r :=
  Pipeline.afterRegion_keeps (Proj.dat (W1 m) c) _ launch0.win.arr_inj (Proj.A_eq (W1 m) c) r h
theorem keep3 (r : Ref sig .tc) (h : ∀ w, Pipeline.arrRef spec1 w = r → (cfg1.win w).isOut = false) : W3 m c r = W2 m c r :=
  Pipeline.afterRegion_keeps (KeyProj.dat (W2 m) c) _ launch1.win.arr_inj (KeyProj.A_eq (W2 m) c) r h
theorem keep4 (r : Ref sig .tc) (h : ∀ w, Pipeline.arrRef spec2 w = r → (cfg2.win w).isOut = false) : W4 m c r = W3 m c r :=
  Pipeline.afterRegion_keeps (Attn.dat (W3 m) c) _ launch2.win.arr_inj (Attn.A_eq (W3 m) c) r h
theorem keep5 (r : Ref sig .tc) (h : ∀ w, Pipeline.arrRef spec3 w = r → (cfg3.win w).isOut = false) : W5 m c r = W4 m c r :=
  Pipeline.afterRegion_keeps (OutProj.dat (W4 m) c) _ launch3.win.arr_inj (OutProj.A_eq (W4 m) c) r h

/-- The reshaped vectors hold, in their one row, the vectors' entries. -/
theorem rows : (fun j : Fin 100 => W1 m c main_v0 (ix2 0 j)) = vec (arg m c main_arg2) ∧
    (fun j : Fin 1024 => W1 m c main_v1 (ix2 0 j)) = vec (arg m c main_arg8) ∧
    (fun j : Fin 1024 => W1 m c main_v2 (ix2 0 j)) = vec (arg m c main_arg9) ∧
    (fun j : Fin 1024 => W1 m c main_v3 (ix2 0 j)) = vec (arg m c main_arg10) ∧
    (fun j : Fin 1024 => W1 m c main_v4 (ix2 0 j)) = vec (arg m c main_arg12) ∧
    (fun j : Fin 1024 => W1 m c main_v5 (ix2 0 j)) = vec (arg m c main_arg13) ∧
    (fun j : Fin 1024 => W1 m c main_v6 (ix2 0 j)) = vec (arg m c main_arg14) ∧
    (fun j : Fin 1024 => W1 m c main_v7 (ix2 0 j)) = vec (arg m c main_arg4) ∧
    (fun j : Fin 1024 => W1 m c main_v8 (ix2 0 j)) = vec (arg m c main_arg5) ∧
    (fun j : Fin 1024 => W1 m c main_v9 (ix2 0 j)) = vec (arg m c main_arg6) ∧
    (fun j : Fin 1024 => W1 m c main_v10 (ix2 0 j)) = vec (arg m c main_arg16) ∧
    (fun j : Fin 1024 => W1 m c main_v11 (ix2 0 j)) = vec (arg m c main_arg17) ∧
    (fun j : Fin 1024 => W1 m c main_v12 (ix2 0 j)) = vec (arg m c main_arg18) := by
  unfold W1 V1
  refine ⟨?_, ?_, ?_, ?_, ?_, ?_, ?_, ?_, ?_, ?_, ?_, ?_, ?_⟩ <;> funext j <;> after_reads_simp <;> exact shapeCast_a_1a_apply _ _ _ _

/-- The projections' scores, queries and values are the block's. -/
theorem score_eq : Proj.score (W1 m) c = (params m c).score := by
  obtain ⟨r0, r1, r2, r3, r4, r5, r6, r7, r8, r9, r10, r11, r12⟩ := rows m c
  funext s j
  unfold Proj.score
  rw [r0, keep1 m c main_arg0 (by decide), keep1 m c main_arg1 (by decide)]
  rfl
theorem query_eq : Proj.query (W1 m) c = (params m c).query := by
  obtain ⟨r0, r1, r2, r3, r4, r5, r6, r7, r8, r9, r10, r11, r12⟩ := rows m c
  funext s j
  unfold Proj.query
  rw [r1, r2, r3, keep1 m c main_arg0 (by decide), keep1 m c main_arg7 (by decide)]
  rfl
theorem value_eq : Proj.value (W1 m) c = (params m c).value := by
  obtain ⟨r0, r1, r2, r3, r4, r5, r6, r7, r8, r9, r10, r11, r12⟩ := rows m c
  funext s j
  unfold Proj.value
  rw [r4, r5, r6, keep1 m c main_arg0 (by decide), keep1 m c main_arg11 (by decide)]
  rfl

/-- After the first call: the scores, the queries, the values, the places picked. -/
theorem after_c : W2 m c main_v13_0 = fun i => (params m c).score (i 0) (i 1) :=
  (Pipeline.afterRegion_arr (Proj.dat (W1 m) c) _ launch0.win.arr_inj 11).trans
    ((Proj.final_c (W1 m) c).trans (by rw [score_eq]))
theorem after_q : W2 m c main_v13_1 = fun i => (params m c).query (i 0) (i 1) :=
  (Pipeline.afterRegion_arr (Proj.dat (W1 m) c) _ launch0.win.arr_inj 12).trans
    ((Proj.final_q (W1 m) c).trans (by rw [query_eq]))
theorem after_v : W2 m c main_v13_2 = fun i => (params m c).value (i 0) (i 1) :=
  (Pipeline.afterRegion_arr (Proj.dat (W1 m) c) _ launch0.win.arr_inj 13).trans
    ((Proj.final_v (W1 m) c).trans (by rw [value_eq]))

variable (hf : (params m c).Finite)
include hf

theorem after_idx : W2 m c main_v13_3 = fun i => BitVec.ofNat 32 ((params m c).spot (i 1) (i 0)).val :=
  (Pipeline.afterRegion_arr (Proj.dat (W1 m) c) _ launch0.win.arr_inj 14).trans
    ((Proj.final_idx (W1 m) c (by rw [score_eq]; exact Params.score_ne_bot hf)).trans (by rw [score_eq]; rfl))

/-- After the second: the keys, head by head. -/
theorem after_k : W3 m c main_v14 = fun i => (params m c).key (i 1) (headCol (i 0) (i 2)) := by
  have hn : KeyProj.Names (W2 m) c (params m c).spot := fun k s => by rw [after_idx m c hf]; rfl
  refine (Pipeline.afterRegion_arr (KeyProj.dat (W2 m) c) _ launch1.win.arr_inj 6).trans ((KeyProj.final_k (W2 m) c hn).trans ?_)
  have hk : KeyProj.key (W2 m) c (params m c).spot = (params m c).key := by
    obtain ⟨r0, r1, r2, r3, r4, r5, r6, r7, r8, r9, r10, r11, r12⟩ := rows m c
    funext s j
    unfold KeyProj.key KeyProj.pts KeyProj.wts
    rw [keep2 m c main_v7 (by decide), keep2 m c main_v8 (by decide), keep2 m c main_v9 (by decide), r7, r8, r9,
      keep2 m c main_arg0 (by decide), keep2 m c main_arg3 (by decide), keep1 m c main_arg0 (by decide), keep1 m c main_arg3 (by decide)]
    rfl
  rw [hk]

/-- What the attention call works from. -/
theorem ks_eq : Attn.ks (W3 m) c = (params m c).key := by
  funext s j
  unfold Attn.ks
  rw [after_k m c hf]
  refine congrArg ((params m c).key s) (Fin.ext ?_)
  show 64 * (j.val / 64) + j.val % 64 = j.val
  omega
omit hf in
theorem qs_eq : Attn.qs (W3 m) c = (params m c).query := by
  funext s j
  unfold Attn.qs
  rw [keep3 m c main_v13_1 (by decide), after_q]
  rfl
omit hf in
theorem vs_eq : Attn.vs (W3 m) c = (params m c).value := by
  funext s j
  unfold Attn.vs
  rw [keep3 m c main_v13_2 (by decide), after_v]
  rfl
theorem attn_eq : Attn.attn (W3 m) c = (params m c).attn := by
  funext h s k
  unfold Attn.attn
  rw [ks_eq m c hf, qs_eq]
  rfl

/-- After the third: the attention and the pooled rows, head by head. -/
theorem after_a : W4 m c main_v15_0 = fun i => (params m c).attn (i 0) (i 1) (i 2) :=
  (Pipeline.afterRegion_arr (Attn.dat (W3 m) c) _ launch2.win.arr_inj 3).trans
    ((Attn.final_a (W3 m) c).trans (by rw [attn_eq m c hf]))
theorem after_p : W4 m c main_v15_1 = fun i => pooled (params m c).attn (params m c).value (i 1) (headCol (i 0) (i 2)) :=
  (Pipeline.afterRegion_arr (Attn.dat (W3 m) c) _ launch2.win.arr_inj 4).trans
    ((Attn.final_p (W3 m) c).trans (by rw [attn_eq m c hf, vs_eq]))

/-- At the end: the output, -/
theorem end_o : W5 m c main_v16 = fun i => (params m c).out (i 0) (i 1) := by
  refine (Pipeline.afterRegion_arr (OutProj.dat (W4 m) c) _ launch3.win.arr_inj 5).trans ((OutProj.final_o (W4 m) c).trans ?_)
  have ho : OutProj.out (W4 m) c = (params m c).out := by
    obtain ⟨r0, r1, r2, r3, r4, r5, r6, r7, r8, r9, r10, r11, r12⟩ := rows m c
    have hp : (fun (k : Fin 100) (e : Fin 1024) => W4 m c main_v15_1 (ix3 (⟨e.val / 64, by omega⟩ : Fin 16) k (⟨e.val % 64, by omega⟩ : Fin 64)))
        = pooled (params m c).attn (params m c).value := by
      funext k e
      rw [after_p m c hf]
      refine congrArg (pooled (params m c).attn (params m c).value k) (Fin.ext ?_)
      show 64 * (e.val / 64) + e.val % 64 = e.val
      omega
    funext k j
    unfold OutProj.out
    rw [hp, keep4 m c main_v10 (by decide), keep4 m c main_v11 (by decide), keep4 m c main_v12 (by decide), keep4 m c main_arg15 (by decide),
      keep3 m c main_v10 (by decide), keep3 m c main_v11 (by decide), keep3 m c main_v12 (by decide), keep3 m c main_arg15 (by decide),
      keep2 m c main_v10 (by decide), keep2 m c main_v11 (by decide), keep2 m c main_v12 (by decide), keep2 m c main_arg15 (by decide),
      r10, r11, r12, keep1 m c main_arg15 (by decide)]
    rfl
  rw [ho]

/-- the attention, -/
theorem end_a : W5 m c main_v15_0 = fun i => (params m c).attn (i 0) (i 1) (i 2) :=
  (keep5 m c main_v15_0 (by decide)).trans (after_a m c hf)

/-- the places picked, -/
theorem end_idx : W5 m c main_v13_3 = fun i => BitVec.ofNat 32 ((params m c).spot (i 1) (i 0)).val :=
  (keep5 m c main_v13_3 (by decide)).trans <| (keep4 m c main_v13_3 (by decide)).trans <| (keep3 m c main_v13_3 (by decide)).trans (after_idx m c hf)

omit hf in
/-- and the scores. -/
theorem end_c : W5 m c main_v13_0 = fun i => (params m c).score (i 0) (i 1) :=
  (keep5 m c main_v13_0 (by decide)).trans <| (keep4 m c main_v13_0 (by decide)).trans <| (keep3 m c main_v13_0 (by decide)).trans (after_c m c)

end Cert.KernelIdeal.Run
-- ==== Proof.PreRead.lean ====
/-
  What the precondition says: the points, the scores' weights and bias, and the gains and shifts of queries and keys hold real numbers.
-/
module

public import proofs.«01_k».proof.Pre_finite
public import proofs.«01_k».proof.Proof.Block
public import Idealize.ShloMosaic.Lib.Pipeline.Value
public import Idealize.ShloMosaic.PureOps.Ideal.Laws

@[expose] public section

noncomputable section

namespace Cert.Pool

open Idealize.ShloMosaic Idealize.ShloMosaic.ValueIdx
open Cert.Pre_finite (Facts)

/-- A conjunction of two bits that holds. -/
theorem both_of_andi : ∀ a b : BitVec 1, IntOp.andi a b = 1#1 → a = 1#1 ∧ b = 1#1 := by decide

/-- Seven bits in a row. -/
theorem seven_of_andi {a b c d e f g : BitVec 1}
    (h : IntOp.andi (IntOp.andi (IntOp.andi (IntOp.andi (IntOp.andi (IntOp.andi a b) c) d) e) f) g = 1#1) :
    a = 1#1 ∧ b = 1#1 ∧ c = 1#1 ∧ d = 1#1 ∧ e = 1#1 ∧ f = 1#1 ∧ g = 1#1 := by
  obtain ⟨h, hg⟩ := both_of_andi _ _ h
  obtain ⟨h, hf⟩ := both_of_andi _ _ h
  obtain ⟨h, he⟩ := both_of_andi _ _ h
  obtain ⟨h, hd⟩ := both_of_andi _ _ h
  obtain ⟨h, hc⟩ := both_of_andi _ _ h
  obtain ⟨ha, hb⟩ := both_of_andi _ _ h
  exact ⟨ha, hb, hc, hd, he, hf, hg⟩

/-- A conjunction of a family of bits that holds. -/
theorem all_of_fold {ι : Type} (b : BitVec 1) (f : ι → BitVec 1) (S : Finset ι) (h : S.fold IntOp.andi b f = 1#1) :
    ∀ i ∈ S, f i = 1#1 := by
  classical
  induction S using Finset.induction_on with
  | empty => exact fun i hi => absurd hi (Finset.notMem_empty i)
  | insert a S ha ih =>
    rw [Finset.fold_insert ha] at h
    obtain ⟨h1, h2⟩ := both_of_andi _ _ h
    intro i hi
    rcases Finset.mem_insert.mp hi with rfl | hi
    · exact h1
    · exact ih h2 i hi

/-- An array of which every entry is found below +∞ in size has real entries. -/
theorem real_of_all {s : Shape} {d : List (Fin s.rank)} (a : FVec Ideal s .f32) (v : IVec ⟨0, ![]⟩ 1)
    (hb : (⟨0, ![]⟩ : Shape).BroadcastsInDim s (![] : Fin 0 → Fin s.rank)) (h : s.ReducesTo d ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32))) v h hu (fun q => q.elim0) = 1#1)
    (i : s.Idx) : IsReal (a i) := by
  rw [Host.reduce_eq_fold] at e
  have hi := all_of_fold _ _ _ e i (Finset.mem_filter.mpr ⟨Finset.mem_univ _, funext fun q => q.elim0⟩)
  rw [cmpf_apply, broadcastInDim_apply _ _ _ _ (fun q => q.elim0) (fun q => q.elim0), constant_apply,
    show Ideal.ofBits .f32 0x7F800000#32 = ⊤ from by simp [Ideal.ofBits, Ideal.ieee], Ideal.cmpf_def] at hi
  have hlt : max (a i) (-(a i)) < ⊤ := by
    by_contra hn
    have : Ideal.cmp .olt (max (a i) (-(a i))) ⊤ = 0#1 := by
      show BitVec.ofBool (decide (max (a i) (-(a i)) < ⊤)) = 0#1
      rw [decide_eq_false hn]
      rfl
    rw [show Host.absf a i = max (a i) (-(a i)) from rfl, this] at hi
    exact absurd hi (by decide)
  obtain ⟨r, hr⟩ : ∃ r : EReal, r = a i := ⟨_, rfl⟩
  rw [← hr] at hlt ⊢
  induction r with
  | bot => simp at hlt
  | top => simp at hlt
  | coe r => exact isReal_coe r

/-- The precondition, as what the block asks of its arguments. -/
theorem finite_of_pre [Cert.Pre_finite.Facts] {x0 : FVec Ideal ⟨2, ![4096, 1024]⟩ .f32} {x1 : FVec Ideal ⟨2, ![1024, 100]⟩ .f32} {x2 : FVec Ideal ⟨1, ![100]⟩ .f32}
    {x3 : FVec Ideal ⟨2, ![8192, 1024]⟩ .f32} {x4 x5 x6 : FVec Ideal ⟨1, ![1024]⟩ .f32} {x7 : FVec Ideal ⟨2, ![1024, 1024]⟩ .f32}
    {x8 x9 x10 : FVec Ideal ⟨1, ![1024]⟩ .f32} {x11 : FVec Ideal ⟨2, ![1024, 1024]⟩ .f32} {x12 x13 x14 : FVec Ideal ⟨1, ![1024]⟩ .f32}
    {x15 : FVec Ideal ⟨2, ![1024, 1024]⟩ .f32} {x16 x17 x18 : FVec Ideal ⟨1, ![1024]⟩ .f32}
    (h : Cert.Pre_finite.fn (F := Ideal) x0 x1 x2 x3 x4 x5 x6 x7 x8 x9 x10 x11 x12 x13 x14 x15 x16 x17 x18 = fun _ => 1#1) :
    (ofArrays x0 x1 x2 x3 x4 x5 x6 x7 x8 x9 x10 x11 x12 x13 x14 x15 x16 x17 x18).Finite := by
  obtain ⟨h0, h1, h2, h9, h10, h5, h6⟩ := seven_of_andi (congrFun h fun q => q.elim0)
  clear h
  have r0 := real_of_all x0 (constantI ⟨0, ![]⟩ 1 1#1) Facts.bcast_S_S4096x1024 Facts.reducesTo_S4096x1024_S_d0_1 Facts.h_S_ h0
  have r1 := real_of_all x1 (constantI ⟨0, ![]⟩ 1 1#1) Facts.bcast_S_S1024x100 Facts.reducesTo_S1024x100_S_d0_1 Facts.h_S_ h1
  have r2 := real_of_all x2 (constantI ⟨0, ![]⟩ 1 1#1) Facts.bcast_S_S100 Facts.reducesTo_S100_S_d0 Facts.h_S_ h2
  have r9 := real_of_all x9 (constantI ⟨0, ![]⟩ 1 1#1) Facts.bcast_S_S1024 Facts.reducesTo_S1024_S_d0 Facts.h_S_ h9
  have r10 := real_of_all x10 (constantI ⟨0, ![]⟩ 1 1#1) Facts.bcast_S_S1024 Facts.reducesTo_S1024_S_d0 Facts.h_S_ h10
  have r5 := real_of_all x5 (constantI ⟨0, ![]⟩ 1 1#1) Facts.bcast_S_S1024 Facts.reducesTo_S1024_S_d0 Facts.h_S_ h5
  have r6 := real_of_all x6 (constantI ⟨0, ![]⟩ 1 1#1) Facts.bcast_S_S1024 Facts.reducesTo_S1024_S_d0 Facts.h_S_ h6
  exact ⟨fun s k => r0 (ix2 s k), fun k c => r1 (ix2 k c), fun c => r2 (ix1 c), fun j => r9 (ix1 j), fun j => r10 (ix1 j), fun j => r5 (ix1 j),
    fun j => r6 (ix1 j)⟩

end Cert.Pool
-- ==== Proof.RefPick.lean ====
/-
  The reference's scores, the places it picks, and the picked rows, read entry by entry.
-/
module

public import proofs.«01_k».proof.Proof.Block
public import proofs.«01_k».proof.Proof.Gen.ReferenceIdeal.Read

@[expose] public section

set_option maxRecDepth 16384

noncomputable section

namespace Cert.Pool

open Idealize.ShloMosaic Idealize.ShloMosaic.ValueIdx

/-- The column of an entry moved along its row to where a sort puts it, for either spelling of the sort's order. -/
theorem along_sorted (c : Fin 100) (k : Fin 4096) (R R' : Fin 4096 → Fin 4096 → Bool) (K : Fin 4096) (hR : R = R') (hd : 1 < 2) (q : Fin 4096) (hq : q = sortedFrom R K) :
    BitVec.ofNat 32 ((ix2 c k).along (s := ⟨2, ![100, 4096]⟩) (⟨1, hd⟩ : Fin 2) (q : Fin 4096) (⟨1, hd⟩ : Fin 2)).val
      = BitVec.ofNat 32 (sortedFrom R' K).val := by
  rw [← hR, ← hq]
  refine congrArg (BitVec.ofNat 32) ?_
  exact congrArg Fin.val (Function.update_self (⟨1, hd⟩ : Fin 2) _ (ix2 c k))

/-- The positions of a matrix's rows' greatest entries, in order: the `k`-th is the `k`-th greatest entry's place. -/
theorem topK_places (x : FVec Ideal ⟨2, ![100, 4096]⟩ .f32)
    (h : (⟨2, ![100, 4096]⟩ : Shape).Slices (fun _ => 0) ⟨2, ![100, 8]⟩) (c : Fin 100) (k : Fin 8) :
    (Host.topK ⟨2, ![100, 8]⟩ 1 (FloatOps.cmpfTotal (F := Ideal) (φ := .f32) .gt) x h).2 (ix2 c k)
      = BitVec.ofNat 32 (place (fun s => x (ix2 c s)) (Fin.castLE (by decide) k)).val := by
  unfold Host.topK
  dsimp only
  rw [extractStridedSlice_apply _ _ _ _ (ix2 c (Fin.castLE (by decide) k : Fin 4096)) (fun a => by
    match a with
    | ⟨0, _⟩ => exact (Nat.zero_add _).symm
    | ⟨1, _⟩ => exact (Nat.zero_add _).symm)]
  unfold Host.sort2
  rw [dif_pos (by decide)]
  dsimp only
  rw [dif_pos (by decide)]
  have hl : ∀ (hd : 1 < 2) (s : Fin 4096), (ix2 c (Fin.castLE (by decide) k : Fin 4096)).along (s := ⟨2, ![100, 4096]⟩) (⟨1, hd⟩ : Fin 2) s = ix2 c s := by
    intro hd s
    funext a
    match a with
    | ⟨0, _⟩ => rfl
    | ⟨1, _⟩ => rfl
  have hc : ∀ s s' : Fin 4096, (FloatOps.cmpfTotal (F := Ideal) (φ := .f32) .gt (x (ix2 c s)) (x (ix2 c s')) == 1#1)
      = decide (x (ix2 c s') < x (ix2 c s)) := by
    intro s s'
    show (BitVec.ofBool (decide (x (ix2 c s') < x (ix2 c s))) == 1#1) = _
    cases decide (x (ix2 c s') < x (ix2 c s)) <;> rfl
  unfold iotaInDim place
  exact along_sorted c _ _ _ _ (funext fun a => funext fun b =>
    (congrArg₂ (fun u v => FloatOps.cmpfTotal (F := Ideal) (φ := .f32) .gt (x u) (x v) == 1#1) (hl _ a) (hl _ b)).trans (hc a b)) _ _ rfl

end Cert.Pool

namespace Cert.ReferenceIdeal.Read

open Cert.ReferenceIdeal Cert.ReferenceIdeal.Gen Cert.Pool
open Idealize.ShloMosaic Idealize.ShloMosaic.ValueIdx Idealize.ShloMosaic.TcCoe

variable {x0 : FVec Ideal S4096x1024 .f32} {x1 : FVec Ideal S1024x100 .f32} {x2 : FVec Ideal S100 .f32}
    {x3 : FVec Ideal S8192x1024 .f32} {x4 x5 x6 : FVec Ideal S1024 .f32} {x7 : FVec Ideal S1024x1024 .f32}
    {x8 x9 x10 : FVec Ideal S1024 .f32} {x11 : FVec Ideal S1024x1024 .f32} {x12 x13 x14 : FVec Ideal S1024 .f32}
    {x15 : FVec Ideal S1024x1024 .f32} {x16 x17 x18 : FVec Ideal S1024 .f32}

variable {P : Params} (hP : ofArrays x0 x1 x2 x3 x4 x5 x6 x7 x8 x9 x10 x11 x12 x13 x14 x15 x16 x17 x18 = P)
include hP

/-- The scores. -/
theorem scores (s : Fin 4096) (c : Fin 100) : val_main_v3 (F := Ideal) x0 x1 x2 (ix2 s c) = P.score s c := by
  subst hP
  rw [val_main_v3_apply, val_main_v0_apply, val_main_v2_apply, val_main_v1_apply]
  exact congrArg₂ (· + ·) (Finset.sum_congr rfl fun k _ => congrArg₂ (· * ·) (congrArg x0 (ValueIdx.eq_ix2 _)) (congrArg x1 (ValueIdx.eq_ix2 _)))
    (congrArg x2 (ValueIdx.eq_ix1 _))

/-- The places picked. -/
theorem spots (k : Fin 8) (c : Fin 100) : val_main_v5 (F := Ideal) x0 x1 x2 (ix2 k c) = BitVec.ofNat 32 (P.spot c k).val := by
  rw [val_main_v5_apply, show idx_main_v5 (ix2 k c) = ix2 c k from by
    funext a
    match a with
    | ⟨0, _⟩ => rfl
    | ⟨1, _⟩ => rfl]
  unfold val_main_indices
  refine (topK_places _ _ c k).trans ?_
  have h : ∀ s, val_main_v4 (F := Ideal) x0 x1 x2 (ix2 c s) = P.score s c := by
    intro s
    rw [val_main_v4_apply, ← scores hP]
    congr 1
    funext a
    match a with
    | ⟨0, _⟩ => rfl
    | ⟨1, _⟩ => rfl
  simp only [h]
  rfl

/-- A place is no negative number, so it is left as it is where negative ones are wrapped. -/
theorem starts (k : Fin 8) (c : Fin 100) (o : Fin 1) :
    val_main_v11 (F := Ideal) x0 x1 x2 (ix3 k c o) = BitVec.ofNat 32 (P.spot c k).val := by
  rw [val_main_v11_apply, show idx_main_v11 (ix3 k c o) = ix2 k c from by
    funext a
    match a with
    | ⟨0, _⟩ => rfl
    | ⟨1, _⟩ => rfl, val_main_v10_apply, val_main_v7_apply, spots hP, val_main_v6_apply]
  have hp := (P.spot c k).isLt
  have hn : IntOp.cmpi .slt (BitVec.ofNat 32 (P.spot c k).val) (val_main_c (F := Ideal) (idx_main_v6 (ix2 k c))) = 0#1 := by
    show BitVec.ofBool (BitVec.slt (BitVec.ofNat 32 (P.spot c k).val) 0#32) = 0#1
    rw [show BitVec.slt (BitVec.ofNat 32 (P.spot c k).val) 0#32 = false from by
      rw [BitVec.slt_eq_decide, decide_eq_false_iff_not, ofNat_toInt hp.le]
      exact not_lt.mpr (Int.natCast_nonneg _)]
    rfl
  rw [hn]
  exact select_zero _ _

/-- The gathered rows are the rows at the places. -/
theorem gathered (k : Fin 8) (c : Fin 100) (e : Fin 1024) :
    val_main_v12 (F := Ideal) x0 x1 x2 (ix3 k c e) = x0 (ix2 (P.spot c k) e) := by
  unfold val_main_v12 Host.gather
  congr 1
  funext a
  refine Fin.ext ?_
  show GatherDims.start _ (ix3 k c e) _ a + GatherDims.batchCoord _ (ix3 k c e) a + GatherDims.offCoord _ (ix3 k c e) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4096x1024_S8x100x1_S8x100x1024_2_0_n_n_0_2_11024.startIndexMap from List.mem_singleton.mpr rfl)]
    have hsi : gather_S4096x1024_S8x100x1_S8x100x1024_2_0_n_n_0_2_11024.siIdx (ix3 k c e)
        ⟨List.idxOf (0 : Fin 2) gather_S4096x1024_S8x100x1_S8x100x1024_2_0_n_n_0_2_11024.startIndexMap,
          List.idxOf_lt_length_iff.2 (List.mem_singleton.mpr rfl)⟩ = ix3 k c (0 : Fin 1) := by
      funext b
      refine Fin.ext ?_
      match b with
      | ⟨0, _⟩ => rfl
      | ⟨1, _⟩ => rfl
      | ⟨2, _⟩ => rfl
    rw [hsi, starts hP, ofNat_toInt (P.spot c k).isLt.le]
    show min (P.spot c k).val 4095 = (P.spot c k).val
    have := (P.spot c k).isLt
    omega
  · unfold GatherDims.start
    rw [dif_neg (by decide)]
    unfold GatherDims.offCoord
    rw [dif_pos (by decide)]
    exact Nat.zero_add _

end Cert.ReferenceIdeal.Read
-- ==== Proof.HostNorm.lean ====
/-
  The normalisation of a matrix's rows as the reference spells it, read at an entry: mean and variance as columns, the
  variance guarded by a comparison of its divisor with zero, the distance from the mean over the square root of the
  raised variance.
-/
module

public import proofs.«01_k».proof.Proof.Norm
public import Idealize.ShloMosaic.Lib.Pipeline.Value
public import Idealize.ShloMosaic.Lib.ValueIdx
public import Idealize.ShloMosaic.PureOps.Ideal.Laws

@[expose] public section

set_option maxRecDepth 16384

noncomputable section

namespace Cert.Pool

open Idealize.ShloMosaic Idealize.ShloMosaic.ValueIdx

/-- What the shapes of the operations have to satisfy, for a matrix of `R` rows. -/
structure Sides (R : ℕ) : Prop where
  red : (⟨2, ![R, 1024]⟩ : Shape).ReducesTo [1] ⟨1, ![R]⟩
  red' : (⟨2, ![R, 1024]⟩ : Shape).Reduces [1] ⟨1, ![R]⟩
  pos : 0 < (⟨0, ![]⟩ : Shape).numel
  col : (⟨1, ![R]⟩ : Shape).BroadcastsInDim ⟨2, ![R, 1]⟩ ![0]
  fill : (⟨0, ![]⟩ : Shape).BroadcastsInDim ⟨2, ![R, 1]⟩ ![]
  spread : (⟨2, ![R, 1]⟩ : Shape).BroadcastsInDim ⟨2, ![R, 1024]⟩ ![0, 1]
  row : (⟨1, ![1024]⟩ : Shape).BroadcastsInDim ⟨2, ![1, 1024]⟩ ![1]
  rows : (⟨2, ![1, 1024]⟩ : Shape).BroadcastsInDim ⟨2, ![R, 1024]⟩ ![0, 1]

section Layout

variable {α : Type} {R : ℕ} (sd : Sides R)
include sd

/-- A vector set up as a column. -/
theorem col_apply (v : (⟨1, ![R]⟩ : Shape).Idx → α) (s : Fin R) (o : Fin 1) :
    broadcastInDim ⟨2, ![R, 1]⟩ ![0] sd.col v (ix2 s o) = v (ix1 s) := by
  refine broadcastInDim_apply _ _ v _ _ fun a => ?_
  match a with
  | ⟨0, _⟩ =>
    show s.val = if R = 1 then 0 else s.val
    split
    · have := s.isLt; omega
    · rfl

/-- A single value set in a column. -/
theorem fill_apply (v : (⟨0, ![]⟩ : Shape).Idx → α) (s : Fin R) (o : Fin 1) :
    broadcastInDim ⟨2, ![R, 1]⟩ ![] sd.fill v (ix2 s o) = v (fun a => a.elim0) :=
  broadcastInDim_apply _ _ v _ _ fun a => a.elim0

/-- A column spread over the rows. -/
theorem spread_apply (v : (⟨2, ![R, 1]⟩ : Shape).Idx → α) (s : Fin R) (j : Fin 1024) :
    broadcastInDim ⟨2, ![R, 1024]⟩ ![0, 1] sd.spread v (ix2 s j) = v (ix2 s (0 : Fin 1)) := by
  refine broadcastInDim_apply _ _ v _ _ fun a => ?_
  match a with
  | ⟨0, _⟩ =>
    show s.val = if R = 1 then 0 else s.val
    split
    · have := s.isLt; omega
    · rfl
  | ⟨1, _⟩ => rfl

/-- A vector set under every row. -/
theorem rows_apply (v : (⟨1, ![1024]⟩ : Shape).Idx → α) (s : Fin R) (j : Fin 1024) :
    broadcastInDim ⟨2, ![R, 1024]⟩ ![0, 1] sd.rows (broadcastInDim ⟨2, ![1, 1024]⟩ ![1] sd.row v) (ix2 s j) = v (ix1 j) := by
  refine (broadcastInDim_apply _ _ _ _ (ix2 (0 : Fin 1) j) fun a => ?_).trans (broadcastInDim_apply _ _ v _ (ix1 j) fun a => ?_)
  · match a with
    | ⟨0, _⟩ => rfl
    | ⟨1, _⟩ => exact (if_neg (by norm_num)).symm
  · match a with
    | ⟨0, _⟩ => exact (if_neg (by norm_num)).symm

end Layout

/-- A matrix plus a vector under every row; -/
def hostBias {R : ℕ} (sd : Sides R) (p : FVec Ideal ⟨2, ![R, 1024]⟩ .f32) (b : FVec Ideal ⟨1, ![1024]⟩ .f32) :
    FVec Ideal ⟨2, ![R, 1024]⟩ .f32 :=
  addf p (broadcastInDim ⟨2, ![R, 1024]⟩ ![0, 1] sd.rows (broadcastInDim ⟨2, ![1, 1024]⟩ ![1] sd.row b))

theorem hostBias_apply {R : ℕ} (sd : Sides R) (p : FVec Ideal ⟨2, ![R, 1024]⟩ .f32) (b : FVec Ideal ⟨1, ![1024]⟩ .f32)
    (s : Fin R) (j : Fin 1024) : hostBias sd p b (ix2 s j) = p (ix2 s j) + b (ix1 j) := by
  unfold hostBias
  rw [addf_apply, rows_apply sd]

/-- the sums of its rows as a column; -/
def hostSum {R : ℕ} (sd : Sides R) (p : FVec Ideal ⟨2, ![R, 1024]⟩ .f32) : FVec Ideal ⟨2, ![R, 1]⟩ .f32 :=
  broadcastInDim ⟨2, ![R, 1]⟩ ![0] sd.col (Host.reduceAdd p (constant (F := Ideal) ⟨0, ![]⟩ .f32 0x00000000#32) sd.red sd.pos)

theorem hostSum_apply {R : ℕ} (sd : Sides R) (p : FVec Ideal ⟨2, ![R, 1024]⟩ .f32) (s : Fin R) (o : Fin 1) :
    hostSum sd p (ix2 s o) = ∑ k : Fin 1024, p (ix2 s k) := by
  unfold hostSum
  rw [col_apply sd]
  simp only [Host.reduceAdd, Ideal.hostReduceAdd_def]
  rw [Ideal.hostReduceAdd_single sd.red sd.red', constant_apply, bits_zero, zero_add]
  refine Finset.sum_congr rfl fun k _ => congrArg p (funext fun a => Fin.ext ?_)
  match a with
  | ⟨0, _⟩ => rfl
  | ⟨1, _⟩ => rfl

/-- its rows' means as a column; -/
def hostMean {R : ℕ} (sd : Sides R) (p : FVec Ideal ⟨2, ![R, 1024]⟩ .f32) : FVec Ideal ⟨2, ![R, 1]⟩ .f32 :=
  Host.divf (hostSum sd p) (broadcastInDim ⟨2, ![R, 1]⟩ ![] sd.fill (constant (F := Ideal) ⟨0, ![]⟩ .f32 0x44800000#32))

theorem hostMean_apply {R : ℕ} (sd : Sides R) (p : FVec Ideal ⟨2, ![R, 1024]⟩ .f32) (s : Fin R) (o : Fin 1) :
    hostMean sd p (ix2 s o) = mean (fun k => p (ix2 s k)) := by
  show Ideal.div (hostSum sd p (ix2 s o)) (broadcastInDim ⟨2, ![R, 1]⟩ ![] sd.fill (constant (F := Ideal) ⟨0, ![]⟩ .f32 0x44800000#32) (ix2 s o)) = _
  rw [hostSum_apply, fill_apply sd, constant_apply, bits_1024]
  rfl

/-- the rows' distances from their means; -/
def hostDev {R : ℕ} (sd : Sides R) (p : FVec Ideal ⟨2, ![R, 1024]⟩ .f32) : FVec Ideal ⟨2, ![R, 1024]⟩ .f32 :=
  subf p (broadcastInDim ⟨2, ![R, 1024]⟩ ![0, 1] sd.spread (hostMean sd p))

theorem hostDev_apply {R : ℕ} (sd : Sides R) (p : FVec Ideal ⟨2, ![R, 1024]⟩ .f32) (s : Fin R) (j : Fin 1024) :
    hostDev sd p (ix2 s j) = p (ix2 s j) - mean (fun k => p (ix2 s k)) := by
  unfold hostDev
  rw [subf_apply, spread_apply sd, hostMean_apply]

/-- what the squares' sum is divided by: the row's length less no degrees of freedom; -/
def hostLen : FVec Ideal ⟨0, ![]⟩ .f32 :=
  subf (constant (F := Ideal) ⟨0, ![]⟩ .f32 0x44800000#32) (sitofp (F := Ideal) .f32 (constantI ⟨0, ![]⟩ 32 0#32))

theorem hostLen_apply (i : (⟨0, ![]⟩ : Shape).Idx) : hostLen i = ((1024 : ℝ) : EReal) := by
  show Ideal.ofBits .f32 0x44800000#32 - (((0#32 : BitVec 32).toInt : ℝ) : EReal) = _
  rw [bits_1024]
  simp

/-- their variances as a column, guarded; -/
def hostVar {R : ℕ} (sd : Sides R) (p : FVec Ideal ⟨2, ![R, 1024]⟩ .f32) : FVec Ideal ⟨2, ![R, 1]⟩ .f32 :=
  select (broadcastInDim ⟨2, ![R, 1]⟩ ![] sd.fill (cmpf .ogt hostLen (constant (F := Ideal) ⟨0, ![]⟩ .f32 0x00000000#32)))
    (Host.divf (hostSum sd (mulf (hostDev sd p) (hostDev sd p))) (broadcastInDim ⟨2, ![R, 1]⟩ ![] sd.fill hostLen))
    (broadcastInDim ⟨2, ![R, 1]⟩ ![] sd.fill (id (constant (F := Ideal) ⟨0, ![]⟩ .f32 0x7FC00000#32)))

theorem hostVar_apply {R : ℕ} (sd : Sides R) (p : FVec Ideal ⟨2, ![R, 1024]⟩ .f32) (s : Fin R) (o : Fin 1) :
    hostVar sd p (ix2 s o) = variance (fun k => p (ix2 s k)) := by
  unfold hostVar
  rw [select_apply, fill_apply sd, cmpf_apply, hostLen_apply, constant_apply, bits_zero]
  rw [show FloatOps.cmpf (F := Ideal) (φ := .f32) .ogt ((1024 : ℝ) : EReal) (0 : EReal) = 1#1 from by
    rw [Ideal.cmpf_def]
    simp [Ideal.cmp]]
  rw [select_one]
  show Ideal.div (hostSum sd (mulf (hostDev sd p) (hostDev sd p)) (ix2 s o)) (broadcastInDim ⟨2, ![R, 1]⟩ ![] sd.fill hostLen (ix2 s o)) = _
  rw [hostSum_apply, fill_apply sd, hostLen_apply]
  simp only [mulf_apply, hostDev_apply]
  rfl

/-- and the matrix normalised. -/
def hostNorm {R : ℕ} (sd : Sides R) (p : FVec Ideal ⟨2, ![R, 1024]⟩ .f32) (g b : FVec Ideal ⟨1, ![1024]⟩ .f32) :
    FVec Ideal ⟨2, ![R, 1024]⟩ .f32 :=
  hostBias sd (mulf (Host.divf (hostDev sd p)
      (broadcastInDim ⟨2, ![R, 1024]⟩ ![0, 1] sd.spread (Host.sqrt (addf (hostVar sd p)
        (broadcastInDim ⟨2, ![R, 1]⟩ ![] sd.fill (constant (F := Ideal) ⟨0, ![]⟩ .f32 0x3727C5AC#32))))))
    (broadcastInDim ⟨2, ![R, 1024]⟩ ![0, 1] sd.rows (broadcastInDim ⟨2, ![1, 1024]⟩ ![1] sd.row g))) b

/-- It is each row's `norm`. -/
theorem hostNorm_apply {R : ℕ} (sd : Sides R) (p : FVec Ideal ⟨2, ![R, 1024]⟩ .f32) (g b : FVec Ideal ⟨1, ![1024]⟩ .f32)
    (s : Fin R) (j : Fin 1024) :
    hostNorm sd p g b (ix2 s j) = norm (fun k => p (ix2 s k)) (fun k => g (ix1 k)) (fun k => b (ix1 k)) j := by
  unfold hostNorm
  rw [hostBias_apply, mulf_apply, rows_apply sd]
  refine Eq.trans ?_ (norm_eq_div _ _ _ j)
  refine congrArg (fun z => z * g (ix1 j) + b (ix1 j)) ?_
  refine (congrArg₂ Ideal.div (hostDev_apply sd p s j) (spread_apply sd _ s j)).trans ?_
  refine congrArg (Ideal.div _) ?_
  show Ideal.sqrt (hostVar sd p (ix2 s 0) + broadcastInDim ⟨2, ![R, 1]⟩ ![] sd.fill (constant (F := Ideal) ⟨0, ![]⟩ .f32 0x3727C5AC#32) (ix2 s 0)) = _
  rw [hostVar_apply, fill_apply sd]
  rfl

end Cert.Pool
-- ==== Proof.RefRead.lean ====
/-
  The reference's keys, queries, values, attention and output, read entry by entry as the block's.
-/
module

public import proofs.«01_k».proof.Proof.RefPick
public import proofs.«01_k».proof.Proof.HostNorm

@[expose] public section

set_option maxRecDepth 16384

noncomputable section

namespace Cert.ReferenceIdeal.Read

open Cert.ReferenceIdeal Cert.ReferenceIdeal.Gen Cert.Pool
open Idealize.ShloMosaic Idealize.ShloMosaic.ValueIdx Idealize.ShloMosaic.TcCoe

variable {x0 : FVec Ideal S4096x1024 .f32} {x1 : FVec Ideal S1024x100 .f32} {x2 : FVec Ideal S100 .f32}
    {x3 : FVec Ideal S8192x1024 .f32} {x4 x5 x6 : FVec Ideal S1024 .f32} {x7 : FVec Ideal S1024x1024 .f32}
    {x8 x9 x10 : FVec Ideal S1024 .f32} {x11 : FVec Ideal S1024x1024 .f32} {x12 x13 x14 : FVec Ideal S1024 .f32}
    {x15 : FVec Ideal S1024x1024 .f32} {x16 x17 x18 : FVec Ideal S1024 .f32}

/-- The shapes of the normalisations, of 100 rows and of 4096. -/
theorem sides100 : Sides 100 :=
  ⟨reducesTo_S100x1024_S100_d1, by decide, h_S_, bcast_S100_S100x1_0, bcast_S_S100x1, bcast_S100x1_S100x1024_0_1,
    bcast_S1024_S1x1024_1, bcast_S1x1024_S100x1024_0_1⟩
theorem sides4096 : Sides 4096 :=
  ⟨reducesTo_S4096x1024_S4096_d1, by decide, h_S_, bcast_S4096_S4096x1_0, bcast_S_S4096x1, bcast_S4096x1_S4096x1024_0_1,
    bcast_S1024_S1x1024_1, bcast_S1x1024_S4096x1024_0_1⟩

variable {P : Params} (hP : ofArrays x0 x1 x2 x3 x4 x5 x6 x7 x8 x9 x10 x11 x12 x13 x14 x15 x16 x17 x18 = P)
include hP

/-- Each slot's picked rows, end to end. -/
theorem picked (c : Fin 100) (e : Fin 8192) : val_main_v14 (F := Ideal) x0 x1 x2 (ix2 c e) = rowsOf P.x P.spot c e := by
  rw [val_main_v14_apply, val_main_v13_apply,
    show idx_main_v13 (idx_main_v14 (ix2 c e)) = ix3 (⟨e.val / 1024, by omega⟩ : Fin 8) c (⟨e.val % 1024, by omega⟩ : Fin 1024) from by
      funext a
      refine Fin.ext ?_
      have hc := c.isLt
      have he := e.isLt
      match a with
      | ⟨0, _⟩ => show (c.val * 8192 + e.val) / 1024 % 8 = e.val / 1024; omega
      | ⟨1, _⟩ => show (c.val * 8192 + e.val) / 8192 = c.val; omega
      | ⟨2, _⟩ => show (c.val * 8192 + e.val) % 1024 = e.val % 1024; omega,
    gathered hP]
  subst hP
  rfl

/-- The keys. -/
theorem keys (c : Fin 100) (j : Fin 1024) : val_main_v36 (F := Ideal) x0 x1 x2 x3 x4 x5 x6 (ix2 c j) = P.key c j := by
  have e : val_main_v36 (F := Ideal) x0 x1 x2 x3 x4 x5 x6 = hostNorm sides100 (hostBias sides100 (val_main_v15 (F := Ideal) x0 x1 x2 x3) x4) x5 x6 := rfl
  rw [e, hostNorm_apply]
  unfold Params.key proj
  have hk : (fun k => hostBias sides100 (val_main_v15 (F := Ideal) x0 x1 x2 x3) x4 (ix2 c k)) = affine (rowsOf P.x P.spot) P.wK P.bK c := by
    funext k
    rw [hostBias_apply, val_main_v15_apply]
    refine congrArg₂ (· + ·) (Finset.sum_congr rfl fun i _ => congrArg₂ (· * ·) ?_ ?_) ?_
    · exact (congrArg (val_main_v14 (F := Ideal) x0 x1 x2) (ValueIdx.eq_ix2 _)).trans (picked hP c i)
    · subst hP; exact congrArg x3 (ValueIdx.eq_ix2 _)
    · subst hP; rfl
  rw [hk]
  subst hP
  rfl

/-- The queries. -/
theorem queries (s : Fin 4096) (j : Fin 1024) : val_main_v59 (F := Ideal) x0 x7 x8 x9 x10 (ix2 s j) = P.query s j := by
  have e : val_main_v59 (F := Ideal) x0 x7 x8 x9 x10 = hostNorm sides4096 (hostBias sides4096 (val_main_v38 (F := Ideal) x0 x7) x8) x9 x10 := rfl
  rw [e, hostNorm_apply]
  unfold Params.query proj
  have hk : (fun k => hostBias sides4096 (val_main_v38 (F := Ideal) x0 x7) x8 (ix2 s k)) = affine P.x P.wQ P.bQ s := by
    subst hP
    funext k
    rw [hostBias_apply, val_main_v38_apply]
    exact congrArg₂ (· + ·) (Finset.sum_congr rfl fun i _ => congrArg₂ (· * ·) (congrArg x0 (ValueIdx.eq_ix2 _)) (congrArg x7 (ValueIdx.eq_ix2 _))) rfl
  rw [hk]
  subst hP
  rfl

/-- The values. -/
theorem values (s : Fin 4096) (j : Fin 1024) : val_main_v82 (F := Ideal) x0 x11 x12 x13 x14 (ix2 s j) = P.value s j := by
  have e : val_main_v82 (F := Ideal) x0 x11 x12 x13 x14 = hostNorm sides4096 (hostBias sides4096 (val_main_v61 (F := Ideal) x0 x11) x12) x13 x14 := rfl
  rw [e, hostNorm_apply]
  unfold Params.value proj
  have hk : (fun k => hostBias sides4096 (val_main_v61 (F := Ideal) x0 x11) x12 (ix2 s k)) = affine P.x P.wV P.bV s := by
    subst hP
    funext k
    rw [hostBias_apply, val_main_v61_apply]
    exact congrArg₂ (· + ·) (Finset.sum_congr rfl fun i _ => congrArg₂ (· * ·) (congrArg x0 (ValueIdx.eq_ix2 _)) (congrArg x11 (ValueIdx.eq_ix2 _))) rfl
  rw [hk]
  subst hP
  rfl

/-- The heads of the queries, -/
theorem headQ (h : Fin 16) (s : Fin 4096) (d : Fin 64) : val_main_v84 (F := Ideal) x0 x7 x8 x9 x10 (ix3 h s d) = P.query s (headCol h d) := by
  rw [val_main_v84_apply, val_main_v60_apply, ← queries hP]
  congr 1
  funext a
  refine Fin.ext ?_
  have h1 := h.isLt
  have h2 := s.isLt
  have h3 := d.isLt
  match a with
  | ⟨0, _⟩ => show ((s.val * 16 + h.val) * 64 + d.val) / 1024 = s.val; omega
  | ⟨1, _⟩ => show ((s.val * 16 + h.val) * 64 + d.val) % 1024 = 64 * h.val + d.val; omega

/-- of the keys, -/
theorem headK (h : Fin 16) (c : Fin 100) (d : Fin 64) : val_main_v85 (F := Ideal) x0 x1 x2 x3 x4 x5 x6 (ix3 h c d) = P.key c (headCol h d) := by
  rw [val_main_v85_apply, val_main_v37_apply, ← keys hP]
  congr 1
  funext a
  refine Fin.ext ?_
  have h1 := h.isLt
  have h2 := c.isLt
  have h3 := d.isLt
  match a with
  | ⟨0, _⟩ => show ((c.val * 16 + h.val) * 64 + d.val) / 1024 = c.val; omega
  | ⟨1, _⟩ => show ((c.val * 16 + h.val) * 64 + d.val) % 1024 = 64 * h.val + d.val; omega

/-- and of the values. -/
theorem headV (h : Fin 16) (s : Fin 4096) (d : Fin 64) : val_main_v86 (F := Ideal) x0 x11 x12 x13 x14 (ix3 h s d) = P.value s (headCol h d) := by
  rw [val_main_v86_apply, val_main_v83_apply, ← values hP]
  congr 1
  funext a
  refine Fin.ext ?_
  have h1 := h.isLt
  have h2 := s.isLt
  have h3 := d.isLt
  match a with
  | ⟨0, _⟩ => show ((s.val * 16 + h.val) * 64 + d.val) / 1024 = s.val; omega
  | ⟨1, _⟩ => show ((s.val * 16 + h.val) * 64 + d.val) % 1024 = 64 * h.val + d.val; omega

/-- The logits. -/
theorem logits (h : Fin 16) (s : Fin 4096) (c : Fin 100) :
    val_main_v89 (F := Ideal) x0 x1 x2 x3 x4 x5 x6 x7 x8 x9 x10 (ix3 h s c) = logit P.query P.key h s c := by
  rw [val_main_v89_apply, val_main_v87_apply, val_main_v88_apply, val_main_cst_12_apply]
  show Ideal.div _ (Ideal.ofBits .f32 0x41000000#32) = _
  rw [bits_8, div_eight]
  refine congrArg (fun z : EReal => z * ((1 / 8 : ℝ) : EReal)) (Finset.sum_congr rfl fun d _ => congrArg₂ (· * ·) ?_ ?_)
  · exact (congrArg (val_main_v84 (F := Ideal) x0 x7 x8 x9 x10) (ValueIdx.eq_ix3 _)).trans (headQ hP h s d)
  · exact (congrArg (val_main_v85 (F := Ideal) x0 x1 x2 x3 x4 x5 x6) (ValueIdx.eq_ix3 _)).trans (headK hP h c d)

/-- What is taken off a row of logits: their greatest. -/
theorem peak (h : Fin 16) (s : Fin 4096) (c : Fin 100) :
    val_main_v94 (F := Ideal) x0 x1 x2 x3 x4 x5 x6 x7 x8 x9 x10 (ix3 h s c) = Finset.univ.fold max ⊥ (logit P.query P.key h s) := by
  rw [val_main_v94_apply, val_main_v93_apply, val_main_v92_apply, val_main_v91_apply, val_main_cst_14_apply]
  show max (Ideal.ofBits .f32 0xFF800000#32) _ = _
  rw [bits_bot, max_bot_left]
  unfold val_main_v90
  refine (Host.reduce_eq_fold_single (α := EReal) max (val_main_v89 (F := Ideal) x0 x1 x2 x3 x4 x5 x6 x7 x8 x9 x10)
    (val_main_cst_13 (F := Ideal)) reducesTo_S16x4096x100_S16x4096_d2 (by decide) h_S_ _).trans ?_
  refine congrArg₂ (fun b f => Finset.univ.fold max b f) bits_bot (funext fun k => ?_)
  exact (congrArg (val_main_v89 (F := Ideal) x0 x1 x2 x3 x4 x5 x6 x7 x8 x9 x10) (ValueIdx.eq_ix3 _)).trans (logits hP h s k)

/-- The attention. -/
theorem attns (hf : P.Finite) (h : Fin 16) (s : Fin 4096) (c : Fin 100) :
    val_main_v100 (F := Ideal) x0 x1 x2 x3 x4 x5 x6 x7 x8 x9 x10 (ix3 h s c) = P.attn h s c := by
  have hx : ∀ c, val_main_v96 (F := Ideal) x0 x1 x2 x3 x4 x5 x6 x7 x8 x9 x10 (ix3 h s c)
      = Ideal.exp (logit P.query P.key h s c - Finset.univ.fold max ⊥ (logit P.query P.key h s)) := by
    intro c
    rw [val_main_v96_apply, val_main_v95_apply, logits hP, peak hP]
    rfl
  rw [val_main_v100_apply, hx, val_main_v99_apply, val_main_v98_apply, val_main_v97_apply, val_main_cst_15_apply]
  refine Eq.trans ?_ (soft_shift (logit P.query P.key h s) (Params.logit_isReal hf h s) _
    (fold_max_isReal _ (Params.logit_isReal hf h s)) c)
  refine congrArg (Ideal.div _) ?_
  refine (congrArg (fun z : EReal => z + _) bits_zero).trans ((zero_add _).trans (Finset.sum_congr rfl fun k _ => ?_))
  exact (congrArg (val_main_v96 (F := Ideal) x0 x1 x2 x3 x4 x5 x6 x7 x8 x9 x10) (ValueIdx.eq_ix3 _)).trans (hx k)

/-- The pooled rows, heads side by side. -/
theorem pools (hf : P.Finite) (c : Fin 100) (j : Fin 1024) :
    val_main_v103 (F := Ideal) x0 x1 x2 x3 x4 x5 x6 x7 x8 x9 x10 x11 x12 x13 x14 (ix2 c j) = pooled P.attn P.value c j := by
  rw [val_main_v103_apply, val_main_v102_apply,
    show idx_main_v102 (idx_main_v103 (ix2 c j)) = ix3 (⟨j.val / 64, by omega⟩ : Fin 16) c (⟨j.val % 64, by omega⟩ : Fin 64) from by
      funext a
      refine Fin.ext ?_
      have hc := c.isLt
      have he := j.isLt
      match a with
      | ⟨0, _⟩ => show (c.val * 1024 + j.val) / 64 % 16 = j.val / 64; omega
      | ⟨1, _⟩ => show (c.val * 1024 + j.val) / 1024 = c.val; omega
      | ⟨2, _⟩ => show (c.val * 1024 + j.val) % 64 = j.val % 64; omega,
    val_main_v101_apply]
  refine Finset.sum_congr rfl fun s _ => congrArg₂ (· * ·) ?_ ?_
  · exact (congrArg (val_main_v100 (F := Ideal) x0 x1 x2 x3 x4 x5 x6 x7 x8 x9 x10) (ValueIdx.eq_ix3 _)).trans (attns hP hf _ s c)
  · refine (congrArg (val_main_v86 (F := Ideal) x0 x11 x12 x13 x14) (ValueIdx.eq_ix3 _)).trans ((headV hP _ s _).trans ?_)
    refine congrArg (P.value s) (Fin.ext ?_)
    show 64 * (j.val / 64) + j.val % 64 = j.val
    omega

/-- The output. -/
theorem outs (hf : P.Finite) (k : Fin 100) (j : Fin 1024) :
    val_main_v125 (F := Ideal) x0 x1 x2 x3 x4 x5 x6 x7 x8 x9 x10 x11 x12 x13 x14 x15 x16 x17 x18 (ix2 k j) = P.out k j := by
  have e : val_main_v125 (F := Ideal) x0 x1 x2 x3 x4 x5 x6 x7 x8 x9 x10 x11 x12 x13 x14 x15 x16 x17 x18
      = hostNorm sides100 (hostBias sides100 (val_main_v104 (F := Ideal) x0 x1 x2 x3 x4 x5 x6 x7 x8 x9 x10 x11 x12 x13 x14 x15) x16) x17 x18 := rfl
  rw [e, hostNorm_apply]
  unfold Params.out proj
  have hk : (fun i => hostBias sides100 (val_main_v104 (F := Ideal) x0 x1 x2 x3 x4 x5 x6 x7 x8 x9 x10 x11 x12 x13 x14 x15) x16 (ix2 k i))
      = affine (pooled P.attn P.value) P.wP P.bP k := by
    funext i
    rw [hostBias_apply, val_main_v104_apply]
    refine congrArg₂ (· + ·) (Finset.sum_congr rfl fun q _ => congrArg₂ (· * ·) ?_ ?_) ?_
    · exact (congrArg (val_main_v103 (F := Ideal) x0 x1 x2 x3 x4 x5 x6 x7 x8 x9 x10 x11 x12 x13 x14) (ValueIdx.eq_ix2 _)).trans (pools hP hf k q)
    · subst hP; exact congrArg x15 (ValueIdx.eq_ix2 _)
    · subst hP; rfl
  rw [hk]
  subst hP
  rfl

end Cert.ReferenceIdeal.Read
-- ==== Proof.Agree.lean ====
/-
  The two programs, run from memories that agree on the arguments: both end with the block's results of those arguments.
-/
module

public import proofs.«01_k».proof.Defs
public import proofs.«01_k».proof.Proof.KernelRead
public import proofs.«01_k».proof.Proof.PreRead
public import proofs.«01_k».proof.Proof.RefRead
public import proofs.«01_k».proof.Proof.Gen.ReferenceIdeal.Run
public import Idealize.ShloMosaic.Lib.Claim

@[expose] public section

set_option maxRecDepth 16384

noncomputable section

namespace Cert.Pool

open Idealize.ShloMosaic hiding ix1 ix2 ix3
open Idealize.ShloMosaic.ValueIdx Idealize.SL.Sem Idealize.ShloMosaic.TcCoe

/-- The shapes of the precondition. -/
theorem preFacts : Cert.Pre_finite.Facts where
  bcast_S_S4096x1024 := by decide
  reducesTo_S4096x1024_S_d0_1 := by decide
  h_S_ := by decide
  bcast_S_S1024x100 := by decide
  reducesTo_S1024x100_S_d0_1 := by decide
  bcast_S_S100 := by decide
  reducesTo_S100_S_d0 := by decide
  bcast_S_S1024 := by decide
  reducesTo_S1024_S_d0 := by decide

section Reference

open Cert.ReferenceIdeal Cert.ReferenceIdeal.Gen Cert.ReferenceIdeal.Read

variable (m : (ℓ : Loc nD τ sig) → Buf (Elt Ideal) ℓ) (c : Dev nD)

/-- The reference's arguments' entries. -/
def refParams : Params :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18))

end Reference

/-- Launches that agree on the arguments have the same entries. -/
theorem params_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) : refParams m' c = Cert.KernelIdeal.Run.params m c := by
  obtain ⟨h0, h1, h2, h3, h4, h5, h6, h7, h8, h9, h10, h11, h12, h13, h14, h15, h16, h17, h18⟩ := h
  unfold refParams Cert.KernelIdeal.Run.params
  rw [h0, h1, h2, h3, h4, h5, h6, h7, h8, h9, h10, h11, h12, h13, h14, h15, h16, h17, h18]

/-- **The kernel and the reference agree**: from memories equal on the arguments, where the precondition holds, each ends with the
    block's output, scores, attention and places of those arguments. -/
theorem agree : Cert.algebraic_KernelIdeal_ReferenceIdeal_pre_finite (hKernelIdeal := Cert.KernelIdeal.Gen.facts)
    (hReferenceIdeal := Cert.ReferenceIdeal.Gen.facts) (hPre_finite := preFacts) := fun m g m' g' hpre hargs => by
  have hf : ∀ c, (Cert.KernelIdeal.Run.params m c).Finite := fun c => @finite_of_pre preFacts _ _ _ _ _ _ _ _ _ _ _ _ _ _ _ _ _ _ _ (hpre c)
  have hP : ∀ c, refParams m' c = Cert.KernelIdeal.Run.params m c := fun c => params_of_agree m m' c (hargs c)
  refine ⟨fun c (i : Cert.KernelIdeal.S100x1024.Idx) => (Cert.KernelIdeal.Run.params m c).out (i 0) (i 1),
    fun c (i : Cert.KernelIdeal.S4096x100.Idx) => (Cert.KernelIdeal.Run.params m c).score (i 0) (i 1),
    fun c (i : Cert.KernelIdeal.S16x4096x100.Idx) => (Cert.KernelIdeal.Run.params m c).attn (i 0) (i 1) (i 2),
    fun c (i : Cert.KernelIdeal.S8x100.Idx) => BitVec.ofNat 32 ((Cert.KernelIdeal.Run.params m c).spot (i 1) (i 0)).val, ?_, ?_⟩
  · refine θ_run_mono (Cert.KernelIdeal.Run.run m g) fun r h c => ?_
    refine ⟨(Cert.KernelIdeal.Run.ends m h.1 c _ (by decide)).trans (Cert.KernelIdeal.Run.end_o m c (hf c)),
      (Cert.KernelIdeal.Run.ends m h.1 c _ (by decide)).trans (Cert.KernelIdeal.Run.end_c m c),
      (Cert.KernelIdeal.Run.ends m h.1 c _ (by decide)).trans (Cert.KernelIdeal.Run.end_a m c (hf c)),
      (Cert.KernelIdeal.Run.ends m h.1 c _ (by decide)).trans (Cert.KernelIdeal.Run.end_idx m c (hf c)), ?_⟩
    repeat' apply And.intro
    all_goals exact Cert.KernelIdeal.Run.arg_ends m h.1 c _ (by decide)
  · exact θ_run_mono (Cert.ReferenceIdeal.Value.run (F := Ideal) m' g') fun r h c =>
      ⟨((h c).1.trans (Cert.ReferenceIdeal.Read.val_main_v125_eq _)).trans (funext fun i =>
          (congrArg _ (ValueIdx.eq_ix2 i)).trans (Cert.ReferenceIdeal.Read.outs (hP c) (hf c) (i 0) (i 1))),
        ((h c).2.1.trans (Cert.ReferenceIdeal.Read.val_main_v3_eq _)).trans (funext fun i =>
          (congrArg _ (ValueIdx.eq_ix2 i)).trans (Cert.ReferenceIdeal.Read.scores (hP c) (i 0) (i 1))),
        ((h c).2.2.1.trans (Cert.ReferenceIdeal.Read.val_main_v100_eq _)).trans (funext fun i =>
          (congrArg _ (ValueIdx.eq_ix3 i)).trans (Cert.ReferenceIdeal.Read.attns (hP c) (hf c) (i 0) (i 1) (i 2))),
        ((h c).2.2.2.1.trans (Cert.ReferenceIdeal.Read.val_main_v5_eq _)).trans (funext fun i =>
          (congrArg _ (ValueIdx.eq_ix2 i)).trans (Cert.ReferenceIdeal.Read.spots (hP c) (i 0) (i 1))),
        (h c).2.2.2.2⟩

end Cert.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.BitsFrame
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem

/-- The kernel as printed ends with its arguments as launched and every counter at zero, -/
theorem frame_p : Cert.quiescent_Kernel (hKernel := Cert.Kernel.Gen.facts) := fun m ρ _ =>
  θ_run_mono (Cert.Kernel.Run.run m ρ) fun _ h => ⟨fun c => by
    repeat' apply And.intro
    all_goals exact Cert.Kernel.Run.arg_ends m h.1 c _ (by decide), h.2⟩

/-- so does the idealised kernel, -/
theorem frame_pi : Cert.quiescent_KernelIdeal (hKernelIdeal := Cert.KernelIdeal.Gen.facts) := fun m ρ _ =>
  θ_run_mono (Cert.KernelIdeal.Run.run m ρ) fun _ h => ⟨fun c => by
    repeat' apply And.intro
    all_goals exact Cert.KernelIdeal.Run.arg_ends m h.1 c _ (by decide), h.2⟩

/-- and the reference. -/
theorem frame_ri : Cert.quiescent_ReferenceIdeal (hReferenceIdeal := Cert.ReferenceIdeal.Gen.facts) := fun m ρ _ =>
  θ_run_mono (Cert.ReferenceIdeal.Value.run (F := Ideal) m ρ) fun r h =>
    ⟨fun c => (h c).2.2.2.2, sem_eq_zero_of_no_sems (by decide) r.2⟩

/-- The two frames under the precondition, which they do not need. -/
theorem frame_pi_pre : Cert.quiescent_KernelIdeal_pre_finite (hKernelIdeal := Cert.KernelIdeal.Gen.facts)
    (hPre_finite := Cert.Pool.preFacts) := fun m ρ _ => frame_pi m ρ trivial
theorem frame_ri_pre : Cert.quiescent_ReferenceIdeal_pre_finite (hReferenceIdeal := Cert.ReferenceIdeal.Gen.facts)
    (hPre_finite := Cert.Pool.preFacts) := fun m ρ _ => frame_ri m ρ trivial

/-- Everything claimed: the frames, that idealising changes nothing, and that kernel and reference end with the same four results. -/
theorem claim : Cert.Claim := ⟨Cert.Kernel.Gen.facts, Cert.KernelIdeal.Gen.facts, Cert.ReferenceIdeal.Gen.facts, Cert.Pool.preFacts,
  frame_p, frame_pi, frame_pi_pre, frame_ri, frame_ri_pre, trivial, Cert.Pool.agree⟩

end Cert.Proof

end
